-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v413)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v413) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v424) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S50000x2 : Shape := ⟨2, ![50000, 2]⟩
abbrev S2x800000 : Shape := ⟨2, ![2, 800000]⟩
abbrev S50000 : Shape := ⟨1, ![50000]⟩
abbrev S64x2 : Shape := ⟨2, ![64, 2]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  h_S_ : 0 < S_.numel

variable [Facts]

def fn {F : FTy → Type} [FloatOps F] (main_arg0 : FVec F S50000x2 .f32) (main_arg1 : IVec S2x800000 32) (main_arg2 : IVec S50000 32) (main_arg3 : FVec F S64x2 .f32) (main_arg4 : FVec F S64 .f32) (main_arg5 : FVec F S64x2 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S128x128 .f32) (main_arg18 : FVec F S128 .f32) (main_arg19 : FVec F S64x128 .f32) (main_arg20 : FVec F S64 .f32) (main_arg21 : FVec F S2x64 .f32) (main_arg22 : FVec F S2 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_c : IVec S_ 32 := constantI S_ 32 0#32
  let main_v2 : IVec S800000 32 := broadcastInDim S800000 ![] bcast_S_S800000 main_c
  let main_v3 : IVec S800000 1 := cmpi .sge main_v1 main_v2
  let main_v4 : IVec S1x800000 32 := (extractStridedSlice S1x800000 ![0, 0] · slices_S2x800000_S1x800000_0_0) main_arg1
  let main_v5 : IVec S800000 32 := shapeCast S800000 main_v4 shapeCasts_S1x800000_S800000
  let main_c_0 : IVec S_ 32 := constantI S_ 32 50000#32
  let main_v6 : IVec S800000 32 := broadcastInDim S800000 ![] bcast_S_S800000 main_c_0
  let main_v7 : IVec S800000 1 := cmpi .slt main_v5 main_v6
  let main_v8 : IVec S800000 1 := andi main_v3 main_v7
  let main_c_1 : IVec S_ 1 := constantI S_ 1 1#1
  let main_v9 : IVec S_ 1 := (fun x v => Host.reduce IntOp.andi x v reducesTo_S800000_S_d0 h_S_) main_v8 main_c_1
  main_v9
-- ==== Kernel.lean ====
abbrev S50000x2 : Shape := ⟨2, ![50000, 2]⟩
abbrev S2x800000 : Shape := ⟨2, ![2, 800000]⟩
abbrev S50000 : Shape := ⟨1, ![50000]⟩
abbrev S64x2 : Shape := ⟨2, ![64, 2]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S50001x16 : Shape := ⟨2, ![50001, 16]⟩
abbrev S1 : Shape := ⟨1, ![1]⟩
abbrev S800000x1 : Shape := ⟨2, ![800000, 1]⟩
abbrev S800000x16 : Shape := ⟨2, ![800000, 16]⟩
abbrev S50000x1 : Shape := ⟨2, ![50000, 1]⟩
abbrev S50000x64 : Shape := ⟨2, ![50000, 64]⟩
abbrev S1x64 : Shape := ⟨2, ![1, 64]⟩
abbrev S25000 : Shape := ⟨1, ![25000]⟩
abbrev S25000x1 : Shape := ⟨2, ![25000, 1]⟩
abbrev S25000x64 : Shape := ⟨2, ![25000, 64]⟩
abbrev S25001x80 : Shape := ⟨2, ![25001, 80]⟩
abbrev S800000x80 : Shape := ⟨2, ![800000, 80]⟩
abbrev S12500 : Shape := ⟨1, ![12500]⟩
abbrev S12500x1 : Shape := ⟨2, ![12500, 1]⟩
abbrev S12500x64 : Shape := ⟨2, ![12500, 64]⟩
abbrev S12501x80 : Shape := ⟨2, ![12501, 80]⟩
abbrev S800000x64 : Shape := ⟨2, ![800000, 64]⟩
abbrev S6250 : Shape := ⟨1, ![6250]⟩
abbrev S6250x1 : Shape := ⟨2, ![6250, 1]⟩
abbrev S6250x64 : Shape := ⟨2, ![6250, 64]⟩
abbrev S6251x80 : Shape := ⟨2, ![6251, 80]⟩
abbrev S3125 : Shape := ⟨1, ![3125]⟩
abbrev S3125x1 : Shape := ⟨2, ![3125, 1]⟩
abbrev S3125x64 : Shape := ⟨2, ![3125, 64]⟩
abbrev S12504x64 : Shape := ⟨2, ![12504, 64]⟩
abbrev S6256x64 : Shape := ⟨2, ![6256, 64]⟩
abbrev S3128x64 : Shape := ⟨2, ![3128, 64]⟩
abbrev S1x2 : Shape := ⟨2, ![1, 2]⟩
abbrev S1x128 : Shape := ⟨2, ![1, 128]⟩
abbrev S12504x1 : Shape := ⟨2, ![12504, 1]⟩
abbrev S6256x1 : Shape := ⟨2, ![6256, 1]⟩
abbrev S3128x1 : Shape := ⟨2, ![3128, 1]⟩
abbrev S128x64 : Shape := ⟨2, ![128, 64]⟩
abbrev S1x1 : Shape := ⟨2, ![1, 1]⟩

abbrev nBuf : Space → Nat
  | .hbm => 610
  | .vmem => 11
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S64x2, .f32⟩
  | 4 => ⟨S64, .f32⟩
  | 5 => ⟨S64x2, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S128x128, .f32⟩
  | 18 => ⟨S128, .f32⟩
  | 19 => ⟨S64x128, .f32⟩
  | 20 => ⟨S64, .f32⟩
  | 21 => ⟨S2x64, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S800000, .f32⟩
  | 29 => ⟨S_, .f32⟩
  | 30 => ⟨S50001x16, .f32⟩
  | 31 => ⟨S_, .i32⟩
  | 32 => ⟨S1, .i32⟩
  | 33 => ⟨S_, .i32⟩
  | 34 => ⟨S1, .i32⟩
  | 35 => ⟨S2, .i32⟩
  | 36 => ⟨S50001x16, .f32⟩
  | 37 => ⟨S_, .i32⟩
  | 38 => ⟨S1, .i32⟩
  | 39 => ⟨S_, .i32⟩
  | 40 => ⟨S1, .i32⟩
  | 41 => ⟨S2, .i32⟩
  | 42 => ⟨S_, .f32⟩
  | 43 => ⟨S50000, .f32⟩
  | 44 => ⟨S50001x16, .f32⟩
  | 45 => ⟨S_, .f32⟩
  | 46 => ⟨S800000, .f32⟩
  | 47 => ⟨S800000, .i1⟩
  | 48 => ⟨S_, .i32⟩
  | 49 => ⟨S_, .i32⟩
  | 50 => ⟨S800000, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x16, .f32⟩
  | 61 => ⟨S_, .f32⟩
  | 62 => ⟨S50001x16, .f32⟩
  | 63 => ⟨S800000x1, .i32⟩
  | 64 => ⟨S50001x16, .f32⟩
  | 65 => ⟨S50000x2, .f32⟩
  | 66 => ⟨S50000x1, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x2, .f32⟩
  | 73 => ⟨S50000x2, .f32⟩
  | 74 => ⟨S2x64, .f32⟩
  | 75 => ⟨S50000x64, .f32⟩
  | 76 => ⟨S1x64, .f32⟩
  | 77 => ⟨S50000x64, .f32⟩
  | 78 => ⟨S50000x64, .f32⟩
  | 79 => ⟨S2x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000, .f32⟩
  | 86 => ⟨S64, .f32⟩
  | 87 => ⟨S_, .f32⟩
  | 88 => ⟨S_, .f32⟩
  | 89 => ⟨S_, .f32⟩
  | 90 => ⟨S50000, .f32⟩
  | 91 => ⟨S50000, .f32⟩
  | 92 => ⟨S50000, .f32⟩
  | 93 => ⟨S25000, .f32⟩
  | 94 => ⟨S25000, .i32⟩
  | 95 => ⟨S_, .i32⟩
  | 96 => ⟨S25000, .i32⟩
  | 97 => ⟨S25000, .i1⟩
  | 98 => ⟨S_, .i32⟩
  | 99 => ⟨S25000, .i32⟩
  | 100 => ⟨S25000, .i32⟩
  | 101 => ⟨S25000, .i32⟩
  | 102 => ⟨S25000x1, .i32⟩
  | 103 => ⟨S25000x64, .f32⟩
  | 104 => ⟨S25000x1, .f32⟩
  | 105 => ⟨S25000x64, .f32⟩
  | 106 => ⟨S25000x64, .f32⟩
  | 107 => ⟨S_, .i32⟩
  | 108 => ⟨S50000, .i32⟩
  | 109 => ⟨S25000, .i32⟩
  | 110 => ⟨S_, .i32⟩
  | 111 => ⟨S25000, .i32⟩
  | 112 => ⟨S25000, .i1⟩
  | 113 => ⟨S_, .i32⟩
  | 114 => ⟨S25000, .i32⟩
  | 115 => ⟨S25000, .i32⟩
  | 116 => ⟨S25000, .i32⟩
  | 117 => ⟨S25000x1, .i32⟩
  | 118 => ⟨S50000, .i32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .i32⟩
  | _ => ⟨S50000x2, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .i32⟩
  | 9 => ⟨S_, .i32⟩
  | 10 => ⟨S800000, .i32⟩
  | 11 => ⟨S800000, .i1⟩
  | 12 => ⟨S800000, .f32⟩
  | 13 => ⟨S800000, .f32⟩
  | 14 => ⟨S_, .i32⟩
  | 15 => ⟨S800000, .i32⟩
  | 16 => ⟨S800000, .i1⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S_, .i32⟩
  | 24 => ⟨S800000, .i32⟩
  | 25 => ⟨S800000, .i32⟩
  | 26 => ⟨S_, .i32⟩
  | 27 => ⟨S800000, .i32⟩
  | 28 => ⟨S800000, .i1⟩
  | 29 => ⟨S_, .i32⟩
  | 30 => ⟨S_, .i32⟩
  | 31 => ⟨S800000, .i32⟩
  | 32 => ⟨S800000, .i32⟩
  | 33 => ⟨S_, .f32⟩
  | 34 => ⟨S25001x80, .f32⟩
  | 35 => ⟨S_, .i32⟩
  | 36 => ⟨S1, .i32⟩
  | 37 => ⟨S_, .i32⟩
  | 38 => ⟨S1, .i32⟩
  | 39 => ⟨S2, .i32⟩
  | 40 => ⟨S25001x80, .f32⟩
  | 41 => ⟨S_, .i32⟩
  | 42 => ⟨S1, .i32⟩
  | 43 => ⟨S_, .i32⟩
  | 44 => ⟨S1, .i32⟩
  | 45 => ⟨S2, .i32⟩
  | 46 => ⟨S_, .f32⟩
  | 47 => ⟨S25000, .f32⟩
  | 48 => ⟨S25001x80, .f32⟩
  | 49 => ⟨S_, .f32⟩
  | 50 => ⟨S800000, .f32⟩
  | 51 => ⟨S800000, .i1⟩
  | 52 => ⟨S_, .i32⟩
  | 53 => ⟨S_, .i32⟩
  | 54 => ⟨S800000, .i32⟩
  | 55 => ⟨S800000, .i32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x80, .f32⟩
  | 65 => ⟨S_, .f32⟩
  | 66 => ⟨S25001x80, .f32⟩
  | 67 => ⟨S800000x1, .i32⟩
  | 68 => ⟨S25001x80, .f32⟩
  | 69 => ⟨S25000x64, .f32⟩
  | 70 => ⟨S25000x1, .f32⟩
  | 71 => ⟨S25000, .f32⟩
  | 72 => ⟨S_, .f32⟩
  | 73 => ⟨S25000, .f32⟩
  | 74 => ⟨S25000, .f32⟩
  | 75 => ⟨S25000x1, .f32⟩
  | 76 => ⟨S25000x64, .f32⟩
  | 77 => ⟨S25000x64, .f32⟩
  | 78 => ⟨S64x64, .f32⟩
  | 79 => ⟨S25000x64, .f32⟩
  | 80 => ⟨S1x64, .f32⟩
  | 81 => ⟨S25000x64, .f32⟩
  | 82 => ⟨S25000x64, .f32⟩
  | 83 => ⟨S64x64, .f32⟩
  | 84 => ⟨S25000x64, .f32⟩
  | 85 => ⟨S25000x64, .f32⟩
  | 86 => ⟨S_, .f32⟩
  | 87 => ⟨S25000x64, .f32⟩
  | 88 => ⟨S25000x64, .f32⟩
  | 89 => ⟨S25000, .f32⟩
  | 90 => ⟨S64, .f32⟩
  | 91 => ⟨S_, .f32⟩
  | 92 => ⟨S_, .f32⟩
  | 93 => ⟨S_, .f32⟩
  | 94 => ⟨S25000, .f32⟩
  | 95 => ⟨S25000, .f32⟩
  | 96 => ⟨S25000, .f32⟩
  | 97 => ⟨S12500, .f32⟩
  | 98 => ⟨S12500, .i32⟩
  | 99 => ⟨S_, .i32⟩
  | 100 => ⟨S12500, .i32⟩
  | 101 => ⟨S12500, .i1⟩
  | 102 => ⟨S_, .i32⟩
  | 103 => ⟨S12500, .i32⟩
  | 104 => ⟨S12500, .i32⟩
  | 105 => ⟨S12500, .i32⟩
  | 106 => ⟨S12500x1, .i32⟩
  | 107 => ⟨S12500x64, .f32⟩
  | 108 => ⟨S12500x1, .f32⟩
  | 109 => ⟨S12500x64, .f32⟩
  | 110 => ⟨S12500x64, .f32⟩
  | 111 => ⟨S_, .i32⟩
  | 112 => ⟨S25000, .i32⟩
  | 113 => ⟨S12500, .i32⟩
  | 114 => ⟨S_, .i32⟩
  | 115 => ⟨S12500, .i32⟩
  | 116 => ⟨S12500, .i1⟩
  | 117 => ⟨S_, .i32⟩
  | 118 => ⟨S12500, .i32⟩
  | 119 => ⟨S12500, .i32⟩
  | 120 => ⟨S12500, .i32⟩
  | 121 => ⟨S12500x1, .i32⟩
  | 122 => ⟨S25000, .i32⟩
  | 123 => ⟨S_, .i32⟩
  | 124 => ⟨S800000, .i32⟩
  | 125 => ⟨S800000, .i1⟩
  | 126 => ⟨S_, .i32⟩
  | 127 => ⟨S800000, .i32⟩
  | _ => ⟨S50000x2, .f32⟩

abbrev hbmTy0_2 (i : Nat) : BufTy := match i % 128 with
  | 0 => ⟨S800000, .i32⟩
  | 1 => ⟨S800000, .i32⟩
  | 2 => ⟨S800000x1, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000, .i32⟩
  | 13 => ⟨S_, .i32⟩
  | 14 => ⟨S800000, .i32⟩
  | 15 => ⟨S800000, .i1⟩
  | 16 => ⟨S800000, .f32⟩
  | 17 => ⟨S800000, .f32⟩
  | 18 => ⟨S_, .i32⟩
  | 19 => ⟨S800000, .i32⟩
  | 20 => ⟨S800000, .i1⟩
  | 21 => ⟨S800000, .f32⟩
  | 22 => ⟨S800000, .f32⟩
  | 23 => ⟨S_, .i32⟩
  | 24 => ⟨S800000, .i32⟩
  | 25 => ⟨S800000, .i1⟩
  | 26 => ⟨S_, .i32⟩
  | 27 => ⟨S_, .i32⟩
  | 28 => ⟨S800000, .i32⟩
  | 29 => ⟨S800000, .i32⟩
  | 30 => ⟨S_, .i32⟩
  | 31 => ⟨S800000, .i32⟩
  | 32 => ⟨S800000, .i1⟩
  | 33 => ⟨S_, .i32⟩
  | 34 => ⟨S_, .i32⟩
  | 35 => ⟨S800000, .i32⟩
  | 36 => ⟨S800000, .i32⟩
  | 37 => ⟨S64x64, .f32⟩
  | 38 => ⟨S12500x64, .f32⟩
  | 39 => ⟨S_, .f32⟩
  | 40 => ⟨S12501x80, .f32⟩
  | 41 => ⟨S_, .i32⟩
  | 42 => ⟨S1, .i32⟩
  | 43 => ⟨S_, .i32⟩
  | 44 => ⟨S1, .i32⟩
  | 45 => ⟨S2, .i32⟩
  | 46 => ⟨S12501x80, .f32⟩
  | 47 => ⟨S_, .i32⟩
  | 48 => ⟨S1, .i32⟩
  | 49 => ⟨S_, .i32⟩
  | 50 => ⟨S1, .i32⟩
  | 51 => ⟨S2, .i32⟩
  | 52 => ⟨S_, .f32⟩
  | 53 => ⟨S12500, .f32⟩
  | 54 => ⟨S12501x80, .f32⟩
  | 55 => ⟨S_, .f32⟩
  | 56 => ⟨S12500, .f32⟩
  | 57 => ⟨S800000x1, .i32⟩
  | 58 => ⟨S12500, .f32⟩
  | 59 => ⟨S_, .f32⟩
  | 60 => ⟨S12500, .f32⟩
  | 61 => ⟨S12500, .f32⟩
  | 62 => ⟨S12500, .f32⟩
  | 63 => ⟨S_, .f32⟩
  | 64 => ⟨S12500, .f32⟩
  | 65 => ⟨S12500, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S800000, .f32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x64, .f32⟩
  | 95 => ⟨S800000x1, .f32⟩
  | 96 => ⟨S800000x64, .f32⟩
  | 97 => ⟨S800000x64, .f32⟩
  | 98 => ⟨S_, .f32⟩
  | 99 => ⟨S12500x64, .f32⟩
  | 100 => ⟨S800000x1, .i32⟩
  | 101 => ⟨S12500x64, .f32⟩
  | 102 => ⟨S12500, .f32⟩
  | 103 => ⟨S12500x1, .f32⟩
  | 104 => ⟨S12500x64, .f32⟩
  | 105 => ⟨S12500x64, .f32⟩
  | 106 => ⟨S12500x64, .f32⟩
  | 107 => ⟨S1x64, .f32⟩
  | 108 => ⟨S12500x64, .f32⟩
  | 109 => ⟨S12500x64, .f32⟩
  | 110 => ⟨S_, .f32⟩
  | 111 => ⟨S12500x64, .f32⟩
  | 112 => ⟨S12500x64, .f32⟩
  | 113 => ⟨S12500, .f32⟩
  | 114 => ⟨S64, .f32⟩
  | 115 => ⟨S_, .f32⟩
  | 116 => ⟨S_, .f32⟩
  | 117 => ⟨S_, .f32⟩
  | 118 => ⟨S12500, .f32⟩
  | 119 => ⟨S12500, .f32⟩
  | 120 => ⟨S12500, .f32⟩
  | 121 => ⟨S6250, .f32⟩
  | 122 => ⟨S6250, .i32⟩
  | 123 => ⟨S_, .i32⟩
  | 124 => ⟨S6250, .i32⟩
  | 125 => ⟨S6250, .i1⟩
  | 126 => ⟨S_, .i32⟩
  | 127 => ⟨S6250, .i32⟩
  | _ => ⟨S50000x2, .f32⟩

abbrev hbmTy0_3 (i : Nat) : BufTy := match i % 128 with
  | 0 => ⟨S6250, .i32⟩
  | 1 => ⟨S6250, .i32⟩
  | 2 => ⟨S6250x1, .i32⟩
  | 3 => ⟨S6250x64, .f32⟩
  | 4 => ⟨S6250x1, .f32⟩
  | 5 => ⟨S6250x64, .f32⟩
  | 6 => ⟨S6250x64, .f32⟩
  | 7 => ⟨S_, .i32⟩
  | 8 => ⟨S12500, .i32⟩
  | 9 => ⟨S6250, .i32⟩
  | 10 => ⟨S_, .i32⟩
  | 11 => ⟨S6250, .i32⟩
  | 12 => ⟨S6250, .i1⟩
  | 13 => ⟨S_, .i32⟩
  | 14 => ⟨S6250, .i32⟩
  | 15 => ⟨S6250, .i32⟩
  | 16 => ⟨S6250, .i32⟩
  | 17 => ⟨S6250x1, .i32⟩
  | 18 => ⟨S12500, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .i32⟩
  | 37 => ⟨S_, .i32⟩
  | 38 => ⟨S800000, .i32⟩
  | 39 => ⟨S800000, .i1⟩
  | 40 => ⟨S800000, .f32⟩
  | 41 => ⟨S800000, .f32⟩
  | 42 => ⟨S_, .i32⟩
  | 43 => ⟨S800000, .i32⟩
  | 44 => ⟨S800000, .i1⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S_, .i32⟩
  | 52 => ⟨S800000, .i32⟩
  | 53 => ⟨S800000, .i32⟩
  | 54 => ⟨S_, .i32⟩
  | 55 => ⟨S800000, .i32⟩
  | 56 => ⟨S800000, .i1⟩
  | 57 => ⟨S_, .i32⟩
  | 58 => ⟨S_, .i32⟩
  | 59 => ⟨S800000, .i32⟩
  | 60 => ⟨S800000, .i32⟩
  | 61 => ⟨S64x64, .f32⟩
  | 62 => ⟨S6250x64, .f32⟩
  | 63 => ⟨S_, .f32⟩
  | 64 => ⟨S6251x80, .f32⟩
  | 65 => ⟨S_, .i32⟩
  | 66 => ⟨S1, .i32⟩
  | 67 => ⟨S_, .i32⟩
  | 68 => ⟨S1, .i32⟩
  | 69 => ⟨S2, .i32⟩
  | 70 => ⟨S6251x80, .f32⟩
  | 71 => ⟨S_, .i32⟩
  | 72 => ⟨S1, .i32⟩
  | 73 => ⟨S_, .i32⟩
  | 74 => ⟨S1, .i32⟩
  | 75 => ⟨S2, .i32⟩
  | 76 => ⟨S_, .f32⟩
  | 77 => ⟨S6250, .f32⟩
  | 78 => ⟨S6251x80, .f32⟩
  | 79 => ⟨S_, .f32⟩
  | 80 => ⟨S6250, .f32⟩
  | 81 => ⟨S800000x1, .i32⟩
  | 82 => ⟨S6250, .f32⟩
  | 83 => ⟨S_, .f32⟩
  | 84 => ⟨S6250, .f32⟩
  | 85 => ⟨S6250, .f32⟩
  | 86 => ⟨S6250, .f32⟩
  | 87 => ⟨S_, .f32⟩
  | 88 => ⟨S6250, .f32⟩
  | 89 => ⟨S6250, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x1, .f32⟩
  | 120 => ⟨S800000x64, .f32⟩
  | 121 => ⟨S800000x64, .f32⟩
  | 122 => ⟨S_, .f32⟩
  | 123 => ⟨S6250x64, .f32⟩
  | 124 => ⟨S800000x1, .i32⟩
  | 125 => ⟨S6250x64, .f32⟩
  | 126 => ⟨S6250, .f32⟩
  | 127 => ⟨S6250x1, .f32⟩
  | _ => ⟨S50000x2, .f32⟩

abbrev hbmTy0_4 (i : Nat) : BufTy := match i % 128 with
  | 0 => ⟨S6250x64, .f32⟩
  | 1 => ⟨S6250x64, .f32⟩
  | 2 => ⟨S6250x64, .f32⟩
  | 3 => ⟨S1x64, .f32⟩
  | 4 => ⟨S6250x64, .f32⟩
  | 5 => ⟨S6250x64, .f32⟩
  | 6 => ⟨S_, .f32⟩
  | 7 => ⟨S6250x64, .f32⟩
  | 8 => ⟨S6250x64, .f32⟩
  | 9 => ⟨S6250, .f32⟩
  | 10 => ⟨S64, .f32⟩
  | 11 => ⟨S_, .f32⟩
  | 12 => ⟨S_, .f32⟩
  | 13 => ⟨S_, .f32⟩
  | 14 => ⟨S6250, .f32⟩
  | 15 => ⟨S6250, .f32⟩
  | 16 => ⟨S6250, .f32⟩
  | 17 => ⟨S3125, .f32⟩
  | 18 => ⟨S3125, .i32⟩
  | 19 => ⟨S_, .i32⟩
  | 20 => ⟨S3125, .i32⟩
  | 21 => ⟨S3125, .i1⟩
  | 22 => ⟨S_, .i32⟩
  | 23 => ⟨S3125, .i32⟩
  | 24 => ⟨S3125, .i32⟩
  | 25 => ⟨S3125, .i32⟩
  | 26 => ⟨S3125x1, .i32⟩
  | 27 => ⟨S3125x64, .f32⟩
  | 28 => ⟨S3125x1, .f32⟩
  | 29 => ⟨S3125x64, .f32⟩
  | 30 => ⟨S3125x64, .f32⟩
  | 31 => ⟨S_, .i32⟩
  | 32 => ⟨S6250, .i32⟩
  | 33 => ⟨S3125, .i32⟩
  | 34 => ⟨S_, .i32⟩
  | 35 => ⟨S3125, .i32⟩
  | 36 => ⟨S3125, .i1⟩
  | 37 => ⟨S_, .i32⟩
  | 38 => ⟨S3125, .i32⟩
  | 39 => ⟨S3125, .i32⟩
  | 40 => ⟨S3125, .i32⟩
  | 41 => ⟨S3125x1, .i32⟩
  | 42 => ⟨S6250, .i32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .i32⟩
  | 61 => ⟨S_, .i32⟩
  | 62 => ⟨S800000, .i32⟩
  | 63 => ⟨S800000, .i1⟩
  | 64 => ⟨S800000, .f32⟩
  | 65 => ⟨S800000, .f32⟩
  | 66 => ⟨S_, .i32⟩
  | 67 => ⟨S800000, .i32⟩
  | 68 => ⟨S800000, .i1⟩
  | 69 => ⟨S800000, .f32⟩
  | 70 => ⟨S800000, .f32⟩
  | 71 => ⟨S_, .i32⟩
  | 72 => ⟨S800000, .i32⟩
  | 73 => ⟨S800000, .i1⟩
  | 74 => ⟨S_, .i32⟩
  | 75 => ⟨S_, .i32⟩
  | 76 => ⟨S800000, .i32⟩
  | 77 => ⟨S800000, .i32⟩
  | 78 => ⟨S_, .i32⟩
  | 79 => ⟨S800000, .i32⟩
  | 80 => ⟨S800000, .i1⟩
  | 81 => ⟨S_, .i32⟩
  | 82 => ⟨S_, .i32⟩
  | 83 => ⟨S800000, .i32⟩
  | 84 => ⟨S800000, .i32⟩
  | 85 => ⟨S_, .i32⟩
  | 86 => ⟨S_, .f32⟩
  | 87 => ⟨S25000x64, .f32⟩
  | 88 => ⟨S_, .i32⟩
  | 89 => ⟨S_, .f32⟩
  | 90 => ⟨S12504x64, .f32⟩
  | 91 => ⟨S_, .i32⟩
  | 92 => ⟨S_, .f32⟩
  | 93 => ⟨S6256x64, .f32⟩
  | 94 => ⟨S_, .i32⟩
  | 95 => ⟨S_, .f32⟩
  | 96 => ⟨S3128x64, .f32⟩
  | 97 => ⟨S1x2, .f32⟩
  | _ => ⟨S50000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x2, .f32⟩

abbrev bufTy : (tb : Table) → Fin (tcTables nBuf tb) → BufTy
  | .hbm, ⟨i, _⟩ => hbmTy i
  | .local _ .vmem, ⟨0, _⟩ => ⟨S25000x64, .f32⟩
  | .local _ .vmem, ⟨1, _⟩ => ⟨S12504x64, .f32⟩
  | .local _ .vmem, ⟨2, _⟩ => ⟨S6256x64, .f32⟩
  | .local _ .vmem, ⟨3, _⟩ => ⟨S3128x64, .f32⟩
  | .local _ .vmem, ⟨4, _⟩ => ⟨S128x128, .f32⟩
  | .local _ .vmem, ⟨5, _⟩ => ⟨S128, .f32⟩
  | .local _ .vmem, ⟨6, _⟩ => ⟨S64x128, .f32⟩
  | .local _ .vmem, ⟨7, _⟩ => ⟨S64, .f32⟩
  | .local _ .vmem, ⟨8, _⟩ => ⟨S2x64, .f32⟩
  | .local _ .vmem, ⟨9, _⟩ => ⟨S2, .f32⟩
  | .local _ .vmem, ⟨10, _⟩ => ⟨S1x2, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_cst_5 : Ref sig .tc := ⟨.hbm, 45, rfl⟩
abbrev main_v15 : Ref sig .tc := ⟨.hbm, 46, rfl⟩
abbrev main_v16 : Ref sig .tc := ⟨.hbm, 47, rfl⟩
abbrev main_c_6 : Ref sig .tc := ⟨.hbm, 48, rfl⟩
abbrev main_call0_v0 : Ref sig .tc := ⟨.hbm, 49, rfl⟩
abbrev main_call0_v1 : Ref sig .tc := ⟨.hbm, 50, rfl⟩
abbrev main_v17 : Ref sig .tc := ⟨.hbm, 51, rfl⟩
abbrev main_c_7 : Ref sig .tc := ⟨.hbm, 52, rfl⟩
abbrev main_v18 : Ref sig .tc := ⟨.hbm, 53, rfl⟩
abbrev main_v19 : Ref sig .tc := ⟨.hbm, 54, rfl⟩
abbrev main_c_8 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_9 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_10 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_call1_cst : Ref sig .tc := ⟨.hbm, 82, rfl⟩
abbrev main_call1_v0 : Ref sig .tc := ⟨.hbm, 83, rfl⟩
abbrev main_v44 : Ref sig .tc := ⟨.hbm, 84, rfl⟩
abbrev main_v45 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_values : Ref sig .tc := ⟨.hbm, 93, rfl⟩
abbrev main_indices : Ref sig .tc := ⟨.hbm, 94, rfl⟩
abbrev main_c_11 : Ref sig .tc := ⟨.hbm, 95, rfl⟩
abbrev main_v50 : Ref sig .tc := ⟨.hbm, 96, rfl⟩
abbrev main_v51 : Ref sig .tc := ⟨.hbm, 97, rfl⟩
abbrev main_c_12 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_13 : Ref sig .tc := ⟨.hbm, 107, rfl⟩
abbrev main_v60 : Ref sig .tc := ⟨.hbm, 108, rfl⟩
abbrev main_v61 : Ref sig .tc := ⟨.hbm, 109, rfl⟩
abbrev main_c_14 : Ref sig .tc := ⟨.hbm, 110, rfl⟩
abbrev main_v62 : Ref sig .tc := ⟨.hbm, 111, rfl⟩
abbrev main_v63 : Ref sig .tc := ⟨.hbm, 112, rfl⟩
abbrev main_c_15 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_16 : Ref sig .tc := ⟨.hbm, 119, rfl⟩
abbrev main_v69 : Ref sig .tc := ⟨.hbm, 120, rfl⟩
abbrev main_v70 : Ref sig .tc := ⟨.hbm, 121, rfl⟩
abbrev main_c_17 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_18 : Ref sig .tc := ⟨.hbm, 128, rfl⟩
abbrev main_v76 : Ref sig .tc := ⟨.hbm, 129, rfl⟩
abbrev main_v77 : Ref sig .tc := ⟨.hbm, 130, rfl⟩
abbrev main_c_19 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_20 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_c_21 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_22 : Ref sig .tc := ⟨.hbm, 147, rfl⟩
abbrev main_v91 : Ref sig .tc := ⟨.hbm, 148, rfl⟩
abbrev main_v92 : Ref sig .tc := ⟨.hbm, 149, rfl⟩
abbrev main_c_23 : Ref sig .tc := ⟨.hbm, 150, rfl⟩
abbrev main_call3_v0 : Ref sig .tc := ⟨.hbm, 151, rfl⟩
abbrev main_call3_v1 : Ref sig .tc := ⟨.hbm, 152, rfl⟩
abbrev main_v93 : Ref sig .tc := ⟨.hbm, 153, rfl⟩
abbrev main_c_24 : Ref sig .tc := ⟨.hbm, 154, rfl⟩
abbrev main_v94 : Ref sig .tc := ⟨.hbm, 155, rfl⟩
abbrev main_v95 : Ref sig .tc := ⟨.hbm, 156, rfl⟩
abbrev main_c_25 : Ref sig .tc := ⟨.hbm, 157, rfl⟩
abbrev main_call4_v0 : Ref sig .tc := ⟨.hbm, 158, rfl⟩
abbrev main_call4_v1 : Ref sig .tc := ⟨.hbm, 159, rfl⟩
abbrev main_v96 : Ref sig .tc := ⟨.hbm, 160, rfl⟩
abbrev main_cst_26 : Ref sig .tc := ⟨.hbm, 161, rfl⟩
abbrev main_v97 : Ref sig .tc := ⟨.hbm, 162, rfl⟩
abbrev main_c_27 : Ref sig .tc := ⟨.hbm, 163, rfl⟩
abbrev main_v98 : Ref sig .tc := ⟨.hbm, 164, rfl⟩
abbrev main_c_28 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_c_29 : Ref sig .tc := ⟨.hbm, 169, rfl⟩
abbrev main_v102 : Ref sig .tc := ⟨.hbm, 170, rfl⟩
abbrev main_c_30 : Ref sig .tc := ⟨.hbm, 171, rfl⟩
abbrev main_v103 : Ref sig .tc := ⟨.hbm, 172, rfl⟩
abbrev main_v104 : Ref sig .tc := ⟨.hbm, 173, rfl⟩
abbrev main_cst_31 : Ref sig .tc := ⟨.hbm, 174, rfl⟩
abbrev main_v105 : Ref sig .tc := ⟨.hbm, 175, rfl⟩
abbrev main_v106 : Ref sig .tc := ⟨.hbm, 176, rfl⟩
abbrev main_cst_32 : Ref sig .tc := ⟨.hbm, 177, rfl⟩
abbrev main_v107 : Ref sig .tc := ⟨.hbm, 178, rfl⟩
abbrev main_v108 : Ref sig .tc := ⟨.hbm, 179, rfl⟩
abbrev main_c_33 : Ref sig .tc := ⟨.hbm, 180, rfl⟩
abbrev main_call5_v0 : Ref sig .tc := ⟨.hbm, 181, rfl⟩
abbrev main_call5_v1 : Ref sig .tc := ⟨.hbm, 182, rfl⟩
abbrev main_v109 : Ref sig .tc := ⟨.hbm, 183, rfl⟩
abbrev main_c_34 : Ref sig .tc := ⟨.hbm, 184, rfl⟩
abbrev main_v110 : Ref sig .tc := ⟨.hbm, 185, rfl⟩
abbrev main_v111 : Ref sig .tc := ⟨.hbm, 186, rfl⟩
abbrev main_c_35 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_36 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_37 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_call6_cst : Ref sig .tc := ⟨.hbm, 214, rfl⟩
abbrev main_call6_v0 : Ref sig .tc := ⟨.hbm, 215, rfl⟩
abbrev main_v136 : Ref sig .tc := ⟨.hbm, 216, rfl⟩
abbrev main_v137 : Ref sig .tc := ⟨.hbm, 217, rfl⟩
abbrev main_call7_v0 : Ref sig .tc := ⟨.hbm, 218, rfl⟩
abbrev main_call7_cst : Ref sig .tc := ⟨.hbm, 219, rfl⟩
abbrev main_call7_v1 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_values_38 : Ref sig .tc := ⟨.hbm, 225, rfl⟩
abbrev main_indices_39 : Ref sig .tc := ⟨.hbm, 226, rfl⟩
abbrev main_c_40 : Ref sig .tc := ⟨.hbm, 227, rfl⟩
abbrev main_v142 : Ref sig .tc := ⟨.hbm, 228, rfl⟩
abbrev main_v143 : Ref sig .tc := ⟨.hbm, 229, rfl⟩
abbrev main_c_41 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_c_42 : Ref sig .tc := ⟨.hbm, 239, rfl⟩
abbrev main_v152 : Ref sig .tc := ⟨.hbm, 240, rfl⟩
abbrev main_v153 : Ref sig .tc := ⟨.hbm, 241, rfl⟩
abbrev main_c_43 : Ref sig .tc := ⟨.hbm, 242, rfl⟩
abbrev main_v154 : Ref sig .tc := ⟨.hbm, 243, rfl⟩
abbrev main_v155 : Ref sig .tc := ⟨.hbm, 244, rfl⟩
abbrev main_c_44 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_c_45 : Ref sig .tc := ⟨.hbm, 251, rfl⟩
abbrev main_v161 : Ref sig .tc := ⟨.hbm, 252, rfl⟩
abbrev main_v162 : Ref sig .tc := ⟨.hbm, 253, rfl⟩
abbrev main_c_46 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_c_47 : Ref sig .tc := ⟨.hbm, 260, rfl⟩
abbrev main_v168 : Ref sig .tc := ⟨.hbm, 261, rfl⟩
abbrev main_v169 : Ref sig .tc := ⟨.hbm, 262, rfl⟩
abbrev main_c_48 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_c_49 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_c_50 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_c_51 : Ref sig .tc := ⟨.hbm, 279, rfl⟩
abbrev main_v183 : Ref sig .tc := ⟨.hbm, 280, rfl⟩
abbrev main_v184 : Ref sig .tc := ⟨.hbm, 281, rfl⟩
abbrev main_c_52 : Ref sig .tc := ⟨.hbm, 282, rfl⟩
abbrev main_call8_v0 : Ref sig .tc := ⟨.hbm, 283, rfl⟩
abbrev main_call8_v1 : Ref sig .tc := ⟨.hbm, 284, rfl⟩
abbrev main_v185 : Ref sig .tc := ⟨.hbm, 285, rfl⟩
abbrev main_c_53 : Ref sig .tc := ⟨.hbm, 286, rfl⟩
abbrev main_v186 : Ref sig .tc := ⟨.hbm, 287, rfl⟩
abbrev main_v187 : Ref sig .tc := ⟨.hbm, 288, rfl⟩
abbrev main_c_54 : Ref sig .tc := ⟨.hbm, 289, rfl⟩
abbrev main_call9_v0 : Ref sig .tc := ⟨.hbm, 290, rfl⟩
abbrev main_call9_v1 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_cst_55 : Ref sig .tc := ⟨.hbm, 295, rfl⟩
abbrev main_v191 : Ref sig .tc := ⟨.hbm, 296, rfl⟩
abbrev main_c_56 : Ref sig .tc := ⟨.hbm, 297, rfl⟩
abbrev main_v192 : Ref sig .tc := ⟨.hbm, 298, rfl⟩
abbrev main_c_57 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_c_58 : Ref sig .tc := ⟨.hbm, 303, rfl⟩
abbrev main_v196 : Ref sig .tc := ⟨.hbm, 304, rfl⟩
abbrev main_c_59 : Ref sig .tc := ⟨.hbm, 305, rfl⟩
abbrev main_v197 : Ref sig .tc := ⟨.hbm, 306, rfl⟩
abbrev main_v198 : Ref sig .tc := ⟨.hbm, 307, rfl⟩
abbrev main_cst_60 : Ref sig .tc := ⟨.hbm, 308, rfl⟩
abbrev main_v199 : Ref sig .tc := ⟨.hbm, 309, rfl⟩
abbrev main_v200 : Ref sig .tc := ⟨.hbm, 310, rfl⟩
abbrev main_cst_61 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_cst_62 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_cst_63 : Ref sig .tc := ⟨.hbm, 319, rfl⟩
abbrev main_v207 : Ref sig .tc := ⟨.hbm, 320, rfl⟩
abbrev main_v208 : Ref sig .tc := ⟨.hbm, 321, rfl⟩
abbrev main_c_64 : Ref sig .tc := ⟨.hbm, 322, rfl⟩
abbrev main_v209 : Ref sig .tc := ⟨.hbm, 323, rfl⟩
abbrev main_v210 : Ref sig .tc := ⟨.hbm, 324, rfl⟩
abbrev main_c_65 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_c_66 : Ref sig .tc := ⟨.hbm, 331, rfl⟩
abbrev main_v216 : Ref sig .tc := ⟨.hbm, 332, rfl⟩
abbrev main_v217 : Ref sig .tc := ⟨.hbm, 333, rfl⟩
abbrev main_c_67 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_c_68 : Ref sig .tc := ⟨.hbm, 342, rfl⟩
abbrev main_v225 : Ref sig .tc := ⟨.hbm, 343, rfl⟩
abbrev main_v226 : Ref sig .tc := ⟨.hbm, 344, rfl⟩
abbrev main_c_69 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_cst_70 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_call10_cst : Ref sig .tc := ⟨.hbm, 366, rfl⟩
abbrev main_call10_v0 : Ref sig .tc := ⟨.hbm, 367, rfl⟩
abbrev main_v246 : Ref sig .tc := ⟨.hbm, 368, rfl⟩
abbrev main_v247 : Ref sig .tc := ⟨.hbm, 369, rfl⟩
abbrev main_call11_v0 : Ref sig .tc := ⟨.hbm, 370, rfl⟩
abbrev main_call11_cst : Ref sig .tc := ⟨.hbm, 371, rfl⟩
abbrev main_call11_v1 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_values_71 : Ref sig .tc := ⟨.hbm, 377, rfl⟩
abbrev main_indices_72 : Ref sig .tc := ⟨.hbm, 378, rfl⟩
abbrev main_c_73 : Ref sig .tc := ⟨.hbm, 379, rfl⟩
abbrev main_v252 : Ref sig .tc := ⟨.hbm, 380, rfl⟩
abbrev main_v253 : Ref sig .tc := ⟨.hbm, 381, rfl⟩
abbrev main_c_74 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_v261 : Ref sig .tc := ⟨.hbm, 390, rfl⟩
abbrev main_c_75 : Ref sig .tc := ⟨.hbm, 391, rfl⟩
abbrev main_v262 : Ref sig .tc := ⟨.hbm, 392, rfl⟩
abbrev main_v263 : Ref sig .tc := ⟨.hbm, 393, rfl⟩
abbrev main_c_76 : Ref sig .tc := ⟨.hbm, 394, rfl⟩
abbrev main_v264 : Ref sig .tc := ⟨.hbm, 395, rfl⟩
abbrev main_v265 : Ref sig .tc := ⟨.hbm, 396, rfl⟩
abbrev main_c_77 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_c_78 : Ref sig .tc := ⟨.hbm, 403, rfl⟩
abbrev main_v271 : Ref sig .tc := ⟨.hbm, 404, rfl⟩
abbrev main_v272 : Ref sig .tc := ⟨.hbm, 405, rfl⟩
abbrev main_c_79 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_v276 : Ref sig .tc := ⟨.hbm, 410, rfl⟩
abbrev main_v277 : Ref sig .tc := ⟨.hbm, 411, rfl⟩
abbrev main_c_80 : Ref sig .tc := ⟨.hbm, 412, rfl⟩
abbrev main_v278 : Ref sig .tc := ⟨.hbm, 413, rfl⟩
abbrev main_v279 : Ref sig .tc := ⟨.hbm, 414, rfl⟩
abbrev main_c_81 : Ref sig .tc := ⟨.hbm, 415, rfl⟩
abbrev main_v280 : Ref sig .tc := ⟨.hbm, 416, rfl⟩
abbrev main_v281 : Ref sig .tc := ⟨.hbm, 417, rfl⟩
abbrev main_v282 : Ref sig .tc := ⟨.hbm, 418, rfl⟩
abbrev main_v283 : Ref sig .tc := ⟨.hbm, 419, rfl⟩
abbrev main_v284 : Ref sig .tc := ⟨.hbm, 420, rfl⟩
abbrev main_c_82 : Ref sig .tc := ⟨.hbm, 421, rfl⟩
abbrev main_v285 : Ref sig .tc := ⟨.hbm, 422, rfl⟩
abbrev main_v286 : Ref sig .tc := ⟨.hbm, 423, rfl⟩
abbrev main_v287 : Ref sig .tc := ⟨.hbm, 424, rfl⟩
abbrev main_v288 : Ref sig .tc := ⟨.hbm, 425, rfl⟩
abbrev main_c_83 : Ref sig .tc := ⟨.hbm, 426, rfl⟩
abbrev main_v289 : Ref sig .tc := ⟨.hbm, 427, rfl⟩
abbrev main_v290 : Ref sig .tc := ⟨.hbm, 428, rfl⟩
abbrev main_v291 : Ref sig .tc := ⟨.hbm, 429, rfl⟩
abbrev main_v292 : Ref sig .tc := ⟨.hbm, 430, rfl⟩
abbrev main_c_84 : Ref sig .tc := ⟨.hbm, 431, rfl⟩
abbrev main_v293 : Ref sig .tc := ⟨.hbm, 432, rfl⟩
abbrev main_v294 : Ref sig .tc := ⟨.hbm, 433, rfl⟩
abbrev main_c_85 : Ref sig .tc := ⟨.hbm, 434, rfl⟩
abbrev main_call12_v0 : Ref sig .tc := ⟨.hbm, 435, rfl⟩
abbrev main_call12_v1 : Ref sig .tc := ⟨.hbm, 436, rfl⟩
abbrev main_v295 : Ref sig .tc := ⟨.hbm, 437, rfl⟩
abbrev main_c_86 : Ref sig .tc := ⟨.hbm, 438, rfl⟩
abbrev main_v296 : Ref sig .tc := ⟨.hbm, 439, rfl⟩
abbrev main_v297 : Ref sig .tc := ⟨.hbm, 440, rfl⟩
abbrev main_c_87 : Ref sig .tc := ⟨.hbm, 441, rfl⟩
abbrev main_call13_v0 : Ref sig .tc := ⟨.hbm, 442, rfl⟩
abbrev main_call13_v1 : Ref sig .tc := ⟨.hbm, 443, rfl⟩
abbrev main_v298 : Ref sig .tc := ⟨.hbm, 444, rfl⟩
abbrev main_v299 : Ref sig .tc := ⟨.hbm, 445, rfl⟩
abbrev main_v300 : Ref sig .tc := ⟨.hbm, 446, rfl⟩
abbrev main_cst_88 : Ref sig .tc := ⟨.hbm, 447, rfl⟩
abbrev main_v301 : Ref sig .tc := ⟨.hbm, 448, rfl⟩
abbrev main_c_89 : Ref sig .tc := ⟨.hbm, 449, rfl⟩
abbrev main_v302 : Ref sig .tc := ⟨.hbm, 450, rfl⟩
abbrev main_c_90 : Ref sig .tc := ⟨.hbm, 451, rfl⟩
abbrev main_v303 : Ref sig .tc := ⟨.hbm, 452, rfl⟩
abbrev main_v304 : Ref sig .tc := ⟨.hbm, 453, rfl⟩
abbrev main_v305 : Ref sig .tc := ⟨.hbm, 454, rfl⟩
abbrev main_c_91 : Ref sig .tc := ⟨.hbm, 455, rfl⟩
abbrev main_v306 : Ref sig .tc := ⟨.hbm, 456, rfl⟩
abbrev main_c_92 : Ref sig .tc := ⟨.hbm, 457, rfl⟩
abbrev main_v307 : Ref sig .tc := ⟨.hbm, 458, rfl⟩
abbrev main_v308 : Ref sig .tc := ⟨.hbm, 459, rfl⟩
abbrev main_cst_93 : Ref sig .tc := ⟨.hbm, 460, rfl⟩
abbrev main_v309 : Ref sig .tc := ⟨.hbm, 461, rfl⟩
abbrev main_v310 : Ref sig .tc := ⟨.hbm, 462, rfl⟩
abbrev main_cst_94 : Ref sig .tc := ⟨.hbm, 463, rfl⟩
abbrev main_v311 : Ref sig .tc := ⟨.hbm, 464, rfl⟩
abbrev main_v312 : Ref sig .tc := ⟨.hbm, 465, rfl⟩
abbrev main_v313 : Ref sig .tc := ⟨.hbm, 466, rfl⟩
abbrev main_cst_95 : Ref sig .tc := ⟨.hbm, 467, rfl⟩
abbrev main_v314 : Ref sig .tc := ⟨.hbm, 468, rfl⟩
abbrev main_v315 : Ref sig .tc := ⟨.hbm, 469, rfl⟩
abbrev main_v316 : Ref sig .tc := ⟨.hbm, 470, rfl⟩
abbrev main_cst_96 : Ref sig .tc := ⟨.hbm, 471, rfl⟩
abbrev main_v317 : Ref sig .tc := ⟨.hbm, 472, rfl⟩
abbrev main_v318 : Ref sig .tc := ⟨.hbm, 473, rfl⟩
abbrev main_c_97 : Ref sig .tc := ⟨.hbm, 474, rfl⟩
abbrev main_v319 : Ref sig .tc := ⟨.hbm, 475, rfl⟩
abbrev main_v320 : Ref sig .tc := ⟨.hbm, 476, rfl⟩
abbrev main_c_98 : Ref sig .tc := ⟨.hbm, 477, rfl⟩
abbrev main_v321 : Ref sig .tc := ⟨.hbm, 478, rfl⟩
abbrev main_v322 : Ref sig .tc := ⟨.hbm, 479, rfl⟩
abbrev main_v323 : Ref sig .tc := ⟨.hbm, 480, rfl⟩
abbrev main_v324 : Ref sig .tc := ⟨.hbm, 481, rfl⟩
abbrev main_v325 : Ref sig .tc := ⟨.hbm, 482, rfl⟩
abbrev main_c_99 : Ref sig .tc := ⟨.hbm, 483, rfl⟩
abbrev main_v326 : Ref sig .tc := ⟨.hbm, 484, rfl⟩
abbrev main_v327 : Ref sig .tc := ⟨.hbm, 485, rfl⟩
abbrev main_c_100 : Ref sig .tc := ⟨.hbm, 486, rfl⟩
abbrev main_v328 : Ref sig .tc := ⟨.hbm, 487, rfl⟩
abbrev main_v329 : Ref sig .tc := ⟨.hbm, 488, rfl⟩
abbrev main_v330 : Ref sig .tc := ⟨.hbm, 489, rfl⟩
abbrev main_v331 : Ref sig .tc := ⟨.hbm, 490, rfl⟩
abbrev main_v332 : Ref sig .tc := ⟨.hbm, 491, rfl⟩
abbrev main_v333 : Ref sig .tc := ⟨.hbm, 492, rfl⟩
abbrev main_v334 : Ref sig .tc := ⟨.hbm, 493, rfl⟩
abbrev main_c_101 : Ref sig .tc := ⟨.hbm, 494, rfl⟩
abbrev main_v335 : Ref sig .tc := ⟨.hbm, 495, rfl⟩
abbrev main_v336 : Ref sig .tc := ⟨.hbm, 496, rfl⟩
abbrev main_c_102 : Ref sig .tc := ⟨.hbm, 497, rfl⟩
abbrev main_v337 : Ref sig .tc := ⟨.hbm, 498, rfl⟩
abbrev main_v338 : Ref sig .tc := ⟨.hbm, 499, rfl⟩
abbrev main_v339 : Ref sig .tc := ⟨.hbm, 500, rfl⟩
abbrev main_v340 : Ref sig .tc := ⟨.hbm, 501, rfl⟩
abbrev main_v341 : Ref sig .tc := ⟨.hbm, 502, rfl⟩
abbrev main_v342 : Ref sig .tc := ⟨.hbm, 503, rfl⟩
abbrev main_v343 : Ref sig .tc := ⟨.hbm, 504, rfl⟩
abbrev main_v344 : Ref sig .tc := ⟨.hbm, 505, rfl⟩
abbrev main_cst_103 : Ref sig .tc := ⟨.hbm, 506, rfl⟩
abbrev main_v345 : Ref sig .tc := ⟨.hbm, 507, rfl⟩
abbrev main_v346 : Ref sig .tc := ⟨.hbm, 508, rfl⟩
abbrev main_v347 : Ref sig .tc := ⟨.hbm, 509, rfl⟩
abbrev main_v348 : Ref sig .tc := ⟨.hbm, 510, rfl⟩
abbrev main_v349 : Ref sig .tc := ⟨.hbm, 511, rfl⟩
abbrev main_v350 : Ref sig .tc := ⟨.hbm, 512, rfl⟩
abbrev main_v351 : Ref sig .tc := ⟨.hbm, 513, rfl⟩
abbrev main_v352 : Ref sig .tc := ⟨.hbm, 514, rfl⟩
abbrev main_v353 : Ref sig .tc := ⟨.hbm, 515, rfl⟩
abbrev main_v354 : Ref sig .tc := ⟨.hbm, 516, rfl⟩
abbrev main_v355 : Ref sig .tc := ⟨.hbm, 517, rfl⟩
abbrev main_call14_cst : Ref sig .tc := ⟨.hbm, 518, rfl⟩
abbrev main_call14_v0 : Ref sig .tc := ⟨.hbm, 519, rfl⟩
abbrev main_v356 : Ref sig .tc := ⟨.hbm, 520, rfl⟩
abbrev main_v357 : Ref sig .tc := ⟨.hbm, 521, rfl⟩
abbrev main_call15_v0 : Ref sig .tc := ⟨.hbm, 522, rfl⟩
abbrev main_call15_cst : Ref sig .tc := ⟨.hbm, 523, rfl⟩
abbrev main_call15_v1 : Ref sig .tc := ⟨.hbm, 524, rfl⟩
abbrev main_v358 : Ref sig .tc := ⟨.hbm, 525, rfl⟩
abbrev main_v359 : Ref sig .tc := ⟨.hbm, 526, rfl⟩
abbrev main_v360 : Ref sig .tc := ⟨.hbm, 527, rfl⟩
abbrev main_v361 : Ref sig .tc := ⟨.hbm, 528, rfl⟩
abbrev main_values_104 : Ref sig .tc := ⟨.hbm, 529, rfl⟩
abbrev main_indices_105 : Ref sig .tc := ⟨.hbm, 530, rfl⟩
abbrev main_c_106 : Ref sig .tc := ⟨.hbm, 531, rfl⟩
abbrev main_v362 : Ref sig .tc := ⟨.hbm, 532, rfl⟩
abbrev main_v363 : Ref sig .tc := ⟨.hbm, 533, rfl⟩
abbrev main_c_107 : Ref sig .tc := ⟨.hbm, 534, rfl⟩
abbrev main_v364 : Ref sig .tc := ⟨.hbm, 535, rfl⟩
abbrev main_v365 : Ref sig .tc := ⟨.hbm, 536, rfl⟩
abbrev main_v366 : Ref sig .tc := ⟨.hbm, 537, rfl⟩
abbrev main_v367 : Ref sig .tc := ⟨.hbm, 538, rfl⟩
abbrev main_v368 : Ref sig .tc := ⟨.hbm, 539, rfl⟩
abbrev main_v369 : Ref sig .tc := ⟨.hbm, 540, rfl⟩
abbrev main_v370 : Ref sig .tc := ⟨.hbm, 541, rfl⟩
abbrev main_v371 : Ref sig .tc := ⟨.hbm, 542, rfl⟩
abbrev main_c_108 : Ref sig .tc := ⟨.hbm, 543, rfl⟩
abbrev main_v372 : Ref sig .tc := ⟨.hbm, 544, rfl⟩
abbrev main_v373 : Ref sig .tc := ⟨.hbm, 545, rfl⟩
abbrev main_c_109 : Ref sig .tc := ⟨.hbm, 546, rfl⟩
abbrev main_v374 : Ref sig .tc := ⟨.hbm, 547, rfl⟩
abbrev main_v375 : Ref sig .tc := ⟨.hbm, 548, rfl⟩
abbrev main_c_110 : Ref sig .tc := ⟨.hbm, 549, rfl⟩
abbrev main_v376 : Ref sig .tc := ⟨.hbm, 550, rfl⟩
abbrev main_v377 : Ref sig .tc := ⟨.hbm, 551, rfl⟩
abbrev main_v378 : Ref sig .tc := ⟨.hbm, 552, rfl⟩
abbrev main_v379 : Ref sig .tc := ⟨.hbm, 553, rfl⟩
abbrev main_v380 : Ref sig .tc := ⟨.hbm, 554, rfl⟩
abbrev main_c_111 : Ref sig .tc := ⟨.hbm, 555, rfl⟩
abbrev main_v381 : Ref sig .tc := ⟨.hbm, 556, rfl⟩
abbrev main_v382 : Ref sig .tc := ⟨.hbm, 557, rfl⟩
abbrev main_c_112 : Ref sig .tc := ⟨.hbm, 558, rfl⟩
abbrev main_v383 : Ref sig .tc := ⟨.hbm, 559, rfl⟩
abbrev main_v384 : Ref sig .tc := ⟨.hbm, 560, rfl⟩
abbrev main_v385 : Ref sig .tc := ⟨.hbm, 561, rfl⟩
abbrev main_v386 : Ref sig .tc := ⟨.hbm, 562, rfl⟩
abbrev main_v387 : Ref sig .tc := ⟨.hbm, 563, rfl⟩
abbrev main_c_113 : Ref sig .tc := ⟨.hbm, 564, rfl⟩
abbrev main_v388 : Ref sig .tc := ⟨.hbm, 565, rfl⟩
abbrev main_v389 : Ref sig .tc := ⟨.hbm, 566, rfl⟩
abbrev main_c_114 : Ref sig .tc := ⟨.hbm, 567, rfl⟩
abbrev main_v390 : Ref sig .tc := ⟨.hbm, 568, rfl⟩
abbrev main_v391 : Ref sig .tc := ⟨.hbm, 569, rfl⟩
abbrev main_v392 : Ref sig .tc := ⟨.hbm, 570, rfl⟩
abbrev main_v393 : Ref sig .tc := ⟨.hbm, 571, rfl⟩
abbrev main_v394 : Ref sig .tc := ⟨.hbm, 572, rfl⟩
abbrev main_c_115 : Ref sig .tc := ⟨.hbm, 573, rfl⟩
abbrev main_v395 : Ref sig .tc := ⟨.hbm, 574, rfl⟩
abbrev main_v396 : Ref sig .tc := ⟨.hbm, 575, rfl⟩
abbrev main_v397 : Ref sig .tc := ⟨.hbm, 576, rfl⟩
abbrev main_v398 : Ref sig .tc := ⟨.hbm, 577, rfl⟩
abbrev main_c_116 : Ref sig .tc := ⟨.hbm, 578, rfl⟩
abbrev main_v399 : Ref sig .tc := ⟨.hbm, 579, rfl⟩
abbrev main_v400 : Ref sig .tc := ⟨.hbm, 580, rfl⟩
abbrev main_v401 : Ref sig .tc := ⟨.hbm, 581, rfl⟩
abbrev main_v402 : Ref sig .tc := ⟨.hbm, 582, rfl⟩
abbrev main_c_117 : Ref sig .tc := ⟨.hbm, 583, rfl⟩
abbrev main_v403 : Ref sig .tc := ⟨.hbm, 584, rfl⟩
abbrev main_v404 : Ref sig .tc := ⟨.hbm, 585, rfl⟩
abbrev main_c_118 : Ref sig .tc := ⟨.hbm, 586, rfl⟩
abbrev main_call16_v0 : Ref sig .tc := ⟨.hbm, 587, rfl⟩
abbrev main_call16_v1 : Ref sig .tc := ⟨.hbm, 588, rfl⟩
abbrev main_v405 : Ref sig .tc := ⟨.hbm, 589, rfl⟩
abbrev main_c_119 : Ref sig .tc := ⟨.hbm, 590, rfl⟩
abbrev main_v406 : Ref sig .tc := ⟨.hbm, 591, rfl⟩
abbrev main_v407 : Ref sig .tc := ⟨.hbm, 592, rfl⟩
abbrev main_c_120 : Ref sig .tc := ⟨.hbm, 593, rfl⟩
abbrev main_call17_v0 : Ref sig .tc := ⟨.hbm, 594, rfl⟩
abbrev main_call17_v1 : Ref sig .tc := ⟨.hbm, 595, rfl⟩
abbrev main_v408 : Ref sig .tc := ⟨.hbm, 596, rfl⟩
abbrev main_c_121 : Ref sig .tc := ⟨.hbm, 597, rfl⟩
abbrev main_call18_v0 : Ref sig .tc := ⟨.hbm, 598, rfl⟩
abbrev main_v409 : Ref sig .tc := ⟨.hbm, 599, rfl⟩
abbrev main_c_122 : Ref sig .tc := ⟨.hbm, 600, rfl⟩
abbrev main_call19_v0 : Ref sig .tc := ⟨.hbm, 601, rfl⟩
abbrev main_v410 : Ref sig .tc := ⟨.hbm, 602, rfl⟩
abbrev main_c_123 : Ref sig .tc := ⟨.hbm, 603, rfl⟩
abbrev main_call20_v0 : Ref sig .tc := ⟨.hbm, 604, rfl⟩
abbrev main_v411 : Ref sig .tc := ⟨.hbm, 605, rfl⟩
abbrev main_c_124 : Ref sig .tc := ⟨.hbm, 606, rfl⟩
abbrev main_call21_v0 : Ref sig .tc := ⟨.hbm, 607, rfl⟩
abbrev main_v412 : Ref sig .tc := ⟨.hbm, 608, rfl⟩
abbrev main_v413 : Ref sig .tc := ⟨.hbm, 609, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S25000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12504x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S50000x2 : Shape := ⟨2, ![50000, 2]⟩
abbrev S2x800000 : Shape := ⟨2, ![2, 800000]⟩
abbrev S50000 : Shape := ⟨1, ![50000]⟩
abbrev S64x2 : Shape := ⟨2, ![64, 2]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S50000x1 : Shape := ⟨2, ![50000, 1]⟩
abbrev S50000x64 : Shape := ⟨2, ![50000, 64]⟩
abbrev S1x64 : Shape := ⟨2, ![1, 64]⟩
abbrev S25000 : Shape := ⟨1, ![25000]⟩
abbrev S25000x1 : Shape := ⟨2, ![25000, 1]⟩
abbrev S25000x64 : Shape := ⟨2, ![25000, 64]⟩
abbrev S1x128 : Shape := ⟨2, ![1, 128]⟩
abbrev S800000x64 : Shape := ⟨2, ![800000, 64]⟩
abbrev S12500 : Shape := ⟨1, ![12500]⟩
abbrev S12500x1 : Shape := ⟨2, ![12500, 1]⟩
abbrev S12500x64 : Shape := ⟨2, ![12500, 64]⟩
abbrev S6250 : Shape := ⟨1, ![6250]⟩
abbrev S6250x1 : Shape := ⟨2, ![6250, 1]⟩
abbrev S6250x64 : Shape := ⟨2, ![6250, 64]⟩
abbrev S3125 : Shape := ⟨1, ![3125]⟩
abbrev S3125x1 : Shape := ⟨2, ![3125, 1]⟩
abbrev S3125x64 : Shape := ⟨2, ![3125, 64]⟩
abbrev S128x64 : Shape := ⟨2, ![128, 64]⟩
abbrev S1x2 : Shape := ⟨2, ![1, 2]⟩
abbrev S1 : Shape := ⟨1, ![1]⟩
abbrev S1x1 : Shape := ⟨2, ![1, 1]⟩

abbrev nBuf : Space → Nat
  | .hbm => 602
  | .vmem => 0
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S64x2, .f32⟩
  | 4 => ⟨S64, .f32⟩
  | 5 => ⟨S64x2, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S128x128, .f32⟩
  | 18 => ⟨S128, .f32⟩
  | 19 => ⟨S64x128, .f32⟩
  | 20 => ⟨S64, .f32⟩
  | 21 => ⟨S2x64, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x2, .f32⟩
  | 38 => ⟨S800000x1, .f32⟩
  | 39 => ⟨S800000x2, .f32⟩
  | 40 => ⟨S800000x2, .f32⟩
  | 41 => ⟨S_, .f32⟩
  | 42 => ⟨S50000x2, .f32⟩
  | 43 => ⟨S800000x1, .i32⟩
  | 44 => ⟨S50000x2, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x2, .f32⟩
  | 54 => ⟨S50000x2, .f32⟩
  | 55 => ⟨S2x64, .f32⟩
  | 56 => ⟨S50000x64, .f32⟩
  | 57 => ⟨S1x64, .f32⟩
  | 58 => ⟨S50000x64, .f32⟩
  | 59 => ⟨S50000x64, .f32⟩
  | 60 => ⟨S2x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000, .f32⟩
  | 67 => ⟨S64, .f32⟩
  | 68 => ⟨S_, .f32⟩
  | 69 => ⟨S_, .f32⟩
  | 70 => ⟨S_, .f32⟩
  | 71 => ⟨S50000, .f32⟩
  | 72 => ⟨S50000, .f32⟩
  | 73 => ⟨S50000, .f32⟩
  | 74 => ⟨S25000, .f32⟩
  | 75 => ⟨S25000, .i32⟩
  | 76 => ⟨S_, .i32⟩
  | 77 => ⟨S25000, .i32⟩
  | 78 => ⟨S25000, .i1⟩
  | 79 => ⟨S_, .i32⟩
  | 80 => ⟨S25000, .i32⟩
  | 81 => ⟨S25000, .i32⟩
  | 82 => ⟨S25000, .i32⟩
  | 83 => ⟨S25000x1, .i32⟩
  | 84 => ⟨S25000x64, .f32⟩
  | 85 => ⟨S25000x1, .f32⟩
  | 86 => ⟨S25000x64, .f32⟩
  | 87 => ⟨S25000x64, .f32⟩
  | 88 => ⟨S_, .i32⟩
  | 89 => ⟨S50000, .i32⟩
  | 90 => ⟨S25000, .i32⟩
  | 91 => ⟨S_, .i32⟩
  | 92 => ⟨S25000, .i32⟩
  | 93 => ⟨S25000, .i1⟩
  | 94 => ⟨S_, .i32⟩
  | 95 => ⟨S25000, .i32⟩
  | 96 => ⟨S25000, .i32⟩
  | 97 => ⟨S25000, .i32⟩
  | 98 => ⟨S25000x1, .i32⟩
  | 99 => ⟨S50000, .i32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .i32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .i32⟩
  | 118 => ⟨S_, .i32⟩
  | 119 => ⟨S800000, .i32⟩
  | 120 => ⟨S800000, .i1⟩
  | 121 => ⟨S800000, .f32⟩
  | 122 => ⟨S800000, .f32⟩
  | 123 => ⟨S_, .i32⟩
  | 124 => ⟨S800000, .i32⟩
  | 125 => ⟨S800000, .i1⟩
  | 126 => ⟨S800000, .f32⟩
  | 127 => ⟨S800000, .f32⟩
  | _ => ⟨S50000x2, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S_, .i32⟩
  | 5 => ⟨S800000, .i32⟩
  | 6 => ⟨S800000, .i32⟩
  | 7 => ⟨S_, .i32⟩
  | 8 => ⟨S800000, .i32⟩
  | 9 => ⟨S800000, .i1⟩
  | 10 => ⟨S_, .i32⟩
  | 11 => ⟨S_, .i32⟩
  | 12 => ⟨S800000, .i32⟩
  | 13 => ⟨S800000, .i32⟩
  | 14 => ⟨S_, .f32⟩
  | 15 => ⟨S64, .f32⟩
  | 16 => ⟨S1x64, .f32⟩
  | 17 => ⟨S_, .f32⟩
  | 18 => ⟨S64, .f32⟩
  | 19 => ⟨S1x64, .f32⟩
  | 20 => ⟨S_, .f32⟩
  | 21 => ⟨S1x64, .f32⟩
  | 22 => ⟨S1x64, .f32⟩
  | 23 => ⟨S1x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x1, .f32⟩
  | 34 => ⟨S800000x64, .f32⟩
  | 35 => ⟨S800000x64, .f32⟩
  | 36 => ⟨S_, .f32⟩
  | 37 => ⟨S25000x64, .f32⟩
  | 38 => ⟨S800000x1, .i32⟩
  | 39 => ⟨S25000x64, .f32⟩
  | 40 => ⟨S_, .f32⟩
  | 41 => ⟨S25000, .f32⟩
  | 42 => ⟨S800000x1, .i32⟩
  | 43 => ⟨S25000, .f32⟩
  | 44 => ⟨S_, .f32⟩
  | 45 => ⟨S25000, .f32⟩
  | 46 => ⟨S25000, .f32⟩
  | 47 => ⟨S25000x1, .f32⟩
  | 48 => ⟨S25000x64, .f32⟩
  | 49 => ⟨S25000x64, .f32⟩
  | 50 => ⟨S64x64, .f32⟩
  | 51 => ⟨S25000x64, .f32⟩
  | 52 => ⟨S1x64, .f32⟩
  | 53 => ⟨S25000x64, .f32⟩
  | 54 => ⟨S25000x64, .f32⟩
  | 55 => ⟨S64x64, .f32⟩
  | 56 => ⟨S25000x64, .f32⟩
  | 57 => ⟨S25000x64, .f32⟩
  | 58 => ⟨S_, .f32⟩
  | 59 => ⟨S25000x64, .f32⟩
  | 60 => ⟨S25000x64, .f32⟩
  | 61 => ⟨S25000, .f32⟩
  | 62 => ⟨S64, .f32⟩
  | 63 => ⟨S_, .f32⟩
  | 64 => ⟨S_, .f32⟩
  | 65 => ⟨S_, .f32⟩
  | 66 => ⟨S25000, .f32⟩
  | 67 => ⟨S25000, .f32⟩
  | 68 => ⟨S25000, .f32⟩
  | 69 => ⟨S12500, .f32⟩
  | 70 => ⟨S12500, .i32⟩
  | 71 => ⟨S_, .i32⟩
  | 72 => ⟨S12500, .i32⟩
  | 73 => ⟨S12500, .i1⟩
  | 74 => ⟨S_, .i32⟩
  | 75 => ⟨S12500, .i32⟩
  | 76 => ⟨S12500, .i32⟩
  | 77 => ⟨S12500, .i32⟩
  | 78 => ⟨S12500x1, .i32⟩
  | 79 => ⟨S12500x64, .f32⟩
  | 80 => ⟨S12500x1, .f32⟩
  | 81 => ⟨S12500x64, .f32⟩
  | 82 => ⟨S12500x64, .f32⟩
  | 83 => ⟨S_, .i32⟩
  | 84 => ⟨S25000, .i32⟩
  | 85 => ⟨S12500, .i32⟩
  | 86 => ⟨S_, .i32⟩
  | 87 => ⟨S12500, .i32⟩
  | 88 => ⟨S12500, .i1⟩
  | 89 => ⟨S_, .i32⟩
  | 90 => ⟨S12500, .i32⟩
  | 91 => ⟨S12500, .i32⟩
  | 92 => ⟨S12500, .i32⟩
  | 93 => ⟨S12500x1, .i32⟩
  | 94 => ⟨S25000, .i32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .i32⟩
  | 113 => ⟨S_, .i32⟩
  | 114 => ⟨S800000, .i32⟩
  | 115 => ⟨S800000, .i1⟩
  | 116 => ⟨S800000, .f32⟩
  | 117 => ⟨S800000, .f32⟩
  | 118 => ⟨S_, .i32⟩
  | 119 => ⟨S800000, .i32⟩
  | 120 => ⟨S800000, .i1⟩
  | 121 => ⟨S800000, .f32⟩
  | 122 => ⟨S800000, .f32⟩
  | 123 => ⟨S_, .i32⟩
  | 124 => ⟨S800000, .i32⟩
  | 125 => ⟨S800000, .i1⟩
  | 126 => ⟨S_, .i32⟩
  | 127 => ⟨S_, .i32⟩
  | _ => ⟨S50000x2, .f32⟩

abbrev hbmTy0_2 (i : Nat) : BufTy := match i % 128 with
  | 0 => ⟨S800000, .i32⟩
  | 1 => ⟨S800000, .i32⟩
  | 2 => ⟨S_, .i32⟩
  | 3 => ⟨S800000, .i32⟩
  | 4 => ⟨S800000, .i1⟩
  | 5 => ⟨S_, .i32⟩
  | 6 => ⟨S_, .i32⟩
  | 7 => ⟨S800000, .i32⟩
  | 8 => ⟨S800000, .i32⟩
  | 9 => ⟨S_, .f32⟩
  | 10 => ⟨S64, .f32⟩
  | 11 => ⟨S1x64, .f32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S1x128, .f32⟩
  | 19 => ⟨S64x64, .f32⟩
  | 20 => ⟨S12500x64, .f32⟩
  | 21 => ⟨S_, .f32⟩
  | 22 => ⟨S12500, .f32⟩
  | 23 => ⟨S800000x1, .i32⟩
  | 24 => ⟨S12500, .f32⟩
  | 25 => ⟨S_, .f32⟩
  | 26 => ⟨S12500, .f32⟩
  | 27 => ⟨S12500, .f32⟩
  | 28 => ⟨S12500, .f32⟩
  | 29 => ⟨S_, .f32⟩
  | 30 => ⟨S12500, .f32⟩
  | 31 => ⟨S12500, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x1, .f32⟩
  | 62 => ⟨S800000x64, .f32⟩
  | 63 => ⟨S800000x64, .f32⟩
  | 64 => ⟨S_, .f32⟩
  | 65 => ⟨S12500x64, .f32⟩
  | 66 => ⟨S800000x1, .i32⟩
  | 67 => ⟨S12500x64, .f32⟩
  | 68 => ⟨S12500, .f32⟩
  | 69 => ⟨S12500x1, .f32⟩
  | 70 => ⟨S12500x64, .f32⟩
  | 71 => ⟨S12500x64, .f32⟩
  | 72 => ⟨S12500x64, .f32⟩
  | 73 => ⟨S1x64, .f32⟩
  | 74 => ⟨S12500x64, .f32⟩
  | 75 => ⟨S12500x64, .f32⟩
  | 76 => ⟨S_, .f32⟩
  | 77 => ⟨S12500x64, .f32⟩
  | 78 => ⟨S12500x64, .f32⟩
  | 79 => ⟨S12500, .f32⟩
  | 80 => ⟨S64, .f32⟩
  | 81 => ⟨S_, .f32⟩
  | 82 => ⟨S_, .f32⟩
  | 83 => ⟨S_, .f32⟩
  | 84 => ⟨S12500, .f32⟩
  | 85 => ⟨S12500, .f32⟩
  | 86 => ⟨S12500, .f32⟩
  | 87 => ⟨S6250, .f32⟩
  | 88 => ⟨S6250, .i32⟩
  | 89 => ⟨S_, .i32⟩
  | 90 => ⟨S6250, .i32⟩
  | 91 => ⟨S6250, .i1⟩
  | 92 => ⟨S_, .i32⟩
  | 93 => ⟨S6250, .i32⟩
  | 94 => ⟨S6250, .i32⟩
  | 95 => ⟨S6250, .i32⟩
  | 96 => ⟨S6250x1, .i32⟩
  | 97 => ⟨S6250x64, .f32⟩
  | 98 => ⟨S6250x1, .f32⟩
  | 99 => ⟨S6250x64, .f32⟩
  | 100 => ⟨S6250x64, .f32⟩
  | 101 => ⟨S_, .i32⟩
  | 102 => ⟨S12500, .i32⟩
  | 103 => ⟨S6250, .i32⟩
  | 104 => ⟨S_, .i32⟩
  | 105 => ⟨S6250, .i32⟩
  | 106 => ⟨S6250, .i1⟩
  | 107 => ⟨S_, .i32⟩
  | 108 => ⟨S6250, .i32⟩
  | 109 => ⟨S6250, .i32⟩
  | 110 => ⟨S6250, .i32⟩
  | 111 => ⟨S6250x1, .i32⟩
  | 112 => ⟨S12500, .i32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .i32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x2, .f32⟩

abbrev hbmTy0_3 (i : Nat) : BufTy := match i % 128 with
  | 0 => ⟨S800000, .i32⟩
  | 1 => ⟨S800000x1, .i32⟩
  | 2 => ⟨S800000, .i32⟩
  | 3 => ⟨S_, .i32⟩
  | 4 => ⟨S800000, .i32⟩
  | 5 => ⟨S800000, .i1⟩
  | 6 => ⟨S800000, .f32⟩
  | 7 => ⟨S800000, .f32⟩
  | 8 => ⟨S_, .i32⟩
  | 9 => ⟨S800000, .i32⟩
  | 10 => ⟨S800000, .i1⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S_, .i32⟩
  | 18 => ⟨S800000, .i32⟩
  | 19 => ⟨S800000, .i32⟩
  | 20 => ⟨S_, .i32⟩
  | 21 => ⟨S800000, .i32⟩
  | 22 => ⟨S800000, .i1⟩
  | 23 => ⟨S_, .i32⟩
  | 24 => ⟨S_, .i32⟩
  | 25 => ⟨S800000, .i32⟩
  | 26 => ⟨S800000, .i32⟩
  | 27 => ⟨S_, .f32⟩
  | 28 => ⟨S64, .f32⟩
  | 29 => ⟨S1x64, .f32⟩
  | 30 => ⟨S_, .f32⟩
  | 31 => ⟨S64, .f32⟩
  | 32 => ⟨S1x64, .f32⟩
  | 33 => ⟨S_, .f32⟩
  | 34 => ⟨S1x64, .f32⟩
  | 35 => ⟨S1x64, .f32⟩
  | 36 => ⟨S1x128, .f32⟩
  | 37 => ⟨S64x64, .f32⟩
  | 38 => ⟨S6250x64, .f32⟩
  | 39 => ⟨S_, .f32⟩
  | 40 => ⟨S6250, .f32⟩
  | 41 => ⟨S800000x1, .i32⟩
  | 42 => ⟨S6250, .f32⟩
  | 43 => ⟨S_, .f32⟩
  | 44 => ⟨S6250, .f32⟩
  | 45 => ⟨S6250, .f32⟩
  | 46 => ⟨S6250, .f32⟩
  | 47 => ⟨S_, .f32⟩
  | 48 => ⟨S6250, .f32⟩
  | 49 => ⟨S6250, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .f32⟩
  | 68 => ⟨S800000, .f32⟩
  | 69 => ⟨S800000, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S800000x1, .f32⟩
  | 80 => ⟨S800000x64, .f32⟩
  | 81 => ⟨S800000x64, .f32⟩
  | 82 => ⟨S_, .f32⟩
  | 83 => ⟨S6250x64, .f32⟩
  | 84 => ⟨S800000x1, .i32⟩
  | 85 => ⟨S6250x64, .f32⟩
  | 86 => ⟨S6250, .f32⟩
  | 87 => ⟨S6250x1, .f32⟩
  | 88 => ⟨S6250x64, .f32⟩
  | 89 => ⟨S6250x64, .f32⟩
  | 90 => ⟨S6250x64, .f32⟩
  | 91 => ⟨S1x64, .f32⟩
  | 92 => ⟨S6250x64, .f32⟩
  | 93 => ⟨S6250x64, .f32⟩
  | 94 => ⟨S_, .f32⟩
  | 95 => ⟨S6250x64, .f32⟩
  | 96 => ⟨S6250x64, .f32⟩
  | 97 => ⟨S6250, .f32⟩
  | 98 => ⟨S64, .f32⟩
  | 99 => ⟨S_, .f32⟩
  | 100 => ⟨S_, .f32⟩
  | 101 => ⟨S_, .f32⟩
  | 102 => ⟨S6250, .f32⟩
  | 103 => ⟨S6250, .f32⟩
  | 104 => ⟨S6250, .f32⟩
  | 105 => ⟨S3125, .f32⟩
  | 106 => ⟨S3125, .i32⟩
  | 107 => ⟨S_, .i32⟩
  | 108 => ⟨S3125, .i32⟩
  | 109 => ⟨S3125, .i1⟩
  | 110 => ⟨S_, .i32⟩
  | 111 => ⟨S3125, .i32⟩
  | 112 => ⟨S3125, .i32⟩
  | 113 => ⟨S3125, .i32⟩
  | 114 => ⟨S3125x1, .i32⟩
  | 115 => ⟨S3125x64, .f32⟩
  | 116 => ⟨S3125x1, .f32⟩
  | 117 => ⟨S3125x64, .f32⟩
  | 118 => ⟨S3125x64, .f32⟩
  | 119 => ⟨S_, .i32⟩
  | 120 => ⟨S6250, .i32⟩
  | 121 => ⟨S3125, .i32⟩
  | 122 => ⟨S_, .i32⟩
  | 123 => ⟨S3125, .i32⟩
  | 124 => ⟨S3125, .i1⟩
  | 125 => ⟨S_, .i32⟩
  | 126 => ⟨S3125, .i32⟩
  | 127 => ⟨S3125, .i32⟩
  | _ => ⟨S50000x2, .f32⟩

abbrev hbmTy0_4 (i : Nat) : BufTy := match i % 128 with
  | 0 => ⟨S3125, .i32⟩
  | 1 => ⟨S3125x1, .i32⟩
  | 2 => ⟨S6250, .i32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .i32⟩
  | 21 => ⟨S_, .i32⟩
  | 22 => ⟨S800000, .i32⟩
  | 23 => ⟨S800000, .i1⟩
  | 24 => ⟨S800000, .f32⟩
  | 25 => ⟨S800000, .f32⟩
  | 26 => ⟨S_, .i32⟩
  | 27 => ⟨S800000, .i32⟩
  | 28 => ⟨S800000, .i1⟩
  | 29 => ⟨S800000, .f32⟩
  | 30 => ⟨S800000, .f32⟩
  | 31 => ⟨S_, .i32⟩
  | 32 => ⟨S800000, .i32⟩
  | 33 => ⟨S800000, .i1⟩
  | 34 => ⟨S_, .i32⟩
  | 35 => ⟨S_, .i32⟩
  | 36 => ⟨S800000, .i32⟩
  | 37 => ⟨S800000, .i32⟩
  | 38 => ⟨S_, .i32⟩
  | 39 => ⟨S800000, .i32⟩
  | 40 => ⟨S800000, .i1⟩
  | 41 => ⟨S_, .i32⟩
  | 42 => ⟨S_, .i32⟩
  | 43 => ⟨S800000, .i32⟩
  | 44 => ⟨S800000, .i32⟩
  | 45 => ⟨S_, .f32⟩
  | 46 => ⟨S64, .f32⟩
  | 47 => ⟨S1x64, .f32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S1x128, .f32⟩
  | 55 => ⟨S1x128, .f32⟩
  | 56 => ⟨S1x128, .f32⟩
  | 57 => ⟨S1x128, .f32⟩
  | 58 => ⟨S128x128, .f32⟩
  | 59 => ⟨S1x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S128x64, .f32⟩
  | 66 => ⟨S1x64, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S64x2, .f32⟩
  | 73 => ⟨S1x2, .f32⟩
  | 74 => ⟨S1x2, .f32⟩
  | 75 => ⟨S1x2, .f32⟩
  | 76 => ⟨S_, .f32⟩
  | 77 => ⟨S1, .f32⟩
  | 78 => ⟨S_, .f32⟩
  | 79 => ⟨S1, .f32⟩
  | 80 => ⟨S1, .f32⟩
  | 81 => ⟨S1x1, .f32⟩
  | 82 => ⟨S1x2, .f32⟩
  | 83 => ⟨S1x2, .f32⟩
  | 84 => ⟨S1x2, .f32⟩
  | 85 => ⟨S_, .f32⟩
  | 86 => ⟨S1, .f32⟩
  | 87 => ⟨S1x1, .f32⟩
  | 88 => ⟨S1x2, .f32⟩
  | 89 => ⟨S1x2, .f32⟩
  | _ => ⟨S50000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call0_cst : Ref sig .tc := ⟨.hbm, 63, rfl⟩
abbrev main_call0_v0 : Ref sig .tc := ⟨.hbm, 64, rfl⟩
abbrev main_v34 : Ref sig .tc := ⟨.hbm, 65, rfl⟩
abbrev main_v35 : Ref sig .tc := ⟨.hbm, 66, rfl⟩
abbrev main_call1_v0 : Ref sig .tc := ⟨.hbm, 67, rfl⟩
abbrev main_call1_cst : Ref sig .tc := ⟨.hbm, 68, rfl⟩
abbrev main_call1_v1 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_values : Ref sig .tc := ⟨.hbm, 74, rfl⟩
abbrev main_indices : Ref sig .tc := ⟨.hbm, 75, rfl⟩
abbrev main_c_4 : Ref sig .tc := ⟨.hbm, 76, rfl⟩
abbrev main_v40 : Ref sig .tc := ⟨.hbm, 77, rfl⟩
abbrev main_v41 : Ref sig .tc := ⟨.hbm, 78, rfl⟩
abbrev main_c_5 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_6 : Ref sig .tc := ⟨.hbm, 88, rfl⟩
abbrev main_v50 : Ref sig .tc := ⟨.hbm, 89, rfl⟩
abbrev main_v51 : Ref sig .tc := ⟨.hbm, 90, rfl⟩
abbrev main_c_7 : Ref sig .tc := ⟨.hbm, 91, rfl⟩
abbrev main_v52 : Ref sig .tc := ⟨.hbm, 92, rfl⟩
abbrev main_v53 : Ref sig .tc := ⟨.hbm, 93, rfl⟩
abbrev main_c_8 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_9 : Ref sig .tc := ⟨.hbm, 100, rfl⟩
abbrev main_v59 : Ref sig .tc := ⟨.hbm, 101, rfl⟩
abbrev main_v60 : Ref sig .tc := ⟨.hbm, 102, rfl⟩
abbrev main_c_10 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_11 : Ref sig .tc := ⟨.hbm, 109, rfl⟩
abbrev main_v66 : Ref sig .tc := ⟨.hbm, 110, rfl⟩
abbrev main_v67 : Ref sig .tc := ⟨.hbm, 111, rfl⟩
abbrev main_c_12 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_13 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_14 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_15 : Ref sig .tc := ⟨.hbm, 128, rfl⟩
abbrev main_v81 : Ref sig .tc := ⟨.hbm, 129, rfl⟩
abbrev main_v82 : Ref sig .tc := ⟨.hbm, 130, rfl⟩
abbrev main_c_16 : Ref sig .tc := ⟨.hbm, 131, rfl⟩
abbrev main_call2_v0 : Ref sig .tc := ⟨.hbm, 132, rfl⟩
abbrev main_call2_v1 : Ref sig .tc := ⟨.hbm, 133, rfl⟩
abbrev main_v83 : Ref sig .tc := ⟨.hbm, 134, rfl⟩
abbrev main_c_17 : Ref sig .tc := ⟨.hbm, 135, rfl⟩
abbrev main_v84 : Ref sig .tc := ⟨.hbm, 136, rfl⟩
abbrev main_v85 : Ref sig .tc := ⟨.hbm, 137, rfl⟩
abbrev main_c_18 : Ref sig .tc := ⟨.hbm, 138, rfl⟩
abbrev main_call3_v0 : Ref sig .tc := ⟨.hbm, 139, rfl⟩
abbrev main_call3_v1 : Ref sig .tc := ⟨.hbm, 140, rfl⟩
abbrev main_v86 : Ref sig .tc := ⟨.hbm, 141, rfl⟩
abbrev main_cst_19 : Ref sig .tc := ⟨.hbm, 142, rfl⟩
abbrev main_v87 : Ref sig .tc := ⟨.hbm, 143, rfl⟩
abbrev main_v88 : Ref sig .tc := ⟨.hbm, 144, rfl⟩
abbrev main_cst_20 : Ref sig .tc := ⟨.hbm, 145, rfl⟩
abbrev main_v89 : Ref sig .tc := ⟨.hbm, 146, rfl⟩
abbrev main_v90 : Ref sig .tc := ⟨.hbm, 147, rfl⟩
abbrev main_cst_21 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_c_22 : Ref sig .tc := ⟨.hbm, 152, rfl⟩
abbrev main_v94 : Ref sig .tc := ⟨.hbm, 153, rfl⟩
abbrev main_v95 : Ref sig .tc := ⟨.hbm, 154, rfl⟩
abbrev main_c_23 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_24 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_25 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_26 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_call4_cst : Ref sig .tc := ⟨.hbm, 186, rfl⟩
abbrev main_call4_v0 : Ref sig .tc := ⟨.hbm, 187, rfl⟩
abbrev main_v123 : Ref sig .tc := ⟨.hbm, 188, rfl⟩
abbrev main_v124 : Ref sig .tc := ⟨.hbm, 189, rfl⟩
abbrev main_call5_v0 : Ref sig .tc := ⟨.hbm, 190, rfl⟩
abbrev main_call5_cst : Ref sig .tc := ⟨.hbm, 191, rfl⟩
abbrev main_call5_v1 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_values_27 : Ref sig .tc := ⟨.hbm, 197, rfl⟩
abbrev main_indices_28 : Ref sig .tc := ⟨.hbm, 198, rfl⟩
abbrev main_c_29 : Ref sig .tc := ⟨.hbm, 199, rfl⟩
abbrev main_v129 : Ref sig .tc := ⟨.hbm, 200, rfl⟩
abbrev main_v130 : Ref sig .tc := ⟨.hbm, 201, rfl⟩
abbrev main_c_30 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_c_31 : Ref sig .tc := ⟨.hbm, 211, rfl⟩
abbrev main_v139 : Ref sig .tc := ⟨.hbm, 212, rfl⟩
abbrev main_v140 : Ref sig .tc := ⟨.hbm, 213, rfl⟩
abbrev main_c_32 : Ref sig .tc := ⟨.hbm, 214, rfl⟩
abbrev main_v141 : Ref sig .tc := ⟨.hbm, 215, rfl⟩
abbrev main_v142 : Ref sig .tc := ⟨.hbm, 216, rfl⟩
abbrev main_c_33 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_c_34 : Ref sig .tc := ⟨.hbm, 223, rfl⟩
abbrev main_v148 : Ref sig .tc := ⟨.hbm, 224, rfl⟩
abbrev main_v149 : Ref sig .tc := ⟨.hbm, 225, rfl⟩
abbrev main_c_35 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_c_36 : Ref sig .tc := ⟨.hbm, 232, rfl⟩
abbrev main_v155 : Ref sig .tc := ⟨.hbm, 233, rfl⟩
abbrev main_v156 : Ref sig .tc := ⟨.hbm, 234, rfl⟩
abbrev main_c_37 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_c_38 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_c_39 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_c_40 : Ref sig .tc := ⟨.hbm, 251, rfl⟩
abbrev main_v170 : Ref sig .tc := ⟨.hbm, 252, rfl⟩
abbrev main_v171 : Ref sig .tc := ⟨.hbm, 253, rfl⟩
abbrev main_c_41 : Ref sig .tc := ⟨.hbm, 254, rfl⟩
abbrev main_call6_v0 : Ref sig .tc := ⟨.hbm, 255, rfl⟩
abbrev main_call6_v1 : Ref sig .tc := ⟨.hbm, 256, rfl⟩
abbrev main_v172 : Ref sig .tc := ⟨.hbm, 257, rfl⟩
abbrev main_c_42 : Ref sig .tc := ⟨.hbm, 258, rfl⟩
abbrev main_v173 : Ref sig .tc := ⟨.hbm, 259, rfl⟩
abbrev main_v174 : Ref sig .tc := ⟨.hbm, 260, rfl⟩
abbrev main_c_43 : Ref sig .tc := ⟨.hbm, 261, rfl⟩
abbrev main_call7_v0 : Ref sig .tc := ⟨.hbm, 262, rfl⟩
abbrev main_call7_v1 : Ref sig .tc := ⟨.hbm, 263, rfl⟩
abbrev main_v175 : Ref sig .tc := ⟨.hbm, 264, rfl⟩
abbrev main_cst_44 : Ref sig .tc := ⟨.hbm, 265, rfl⟩
abbrev main_v176 : Ref sig .tc := ⟨.hbm, 266, rfl⟩
abbrev main_v177 : Ref sig .tc := ⟨.hbm, 267, rfl⟩
abbrev main_cst_45 : Ref sig .tc := ⟨.hbm, 268, rfl⟩
abbrev main_v178 : Ref sig .tc := ⟨.hbm, 269, rfl⟩
abbrev main_v179 : Ref sig .tc := ⟨.hbm, 270, rfl⟩
abbrev main_cst_46 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_47 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_cst_48 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_cst_49 : Ref sig .tc := ⟨.hbm, 285, rfl⟩
abbrev main_v191 : Ref sig .tc := ⟨.hbm, 286, rfl⟩
abbrev main_v192 : Ref sig .tc := ⟨.hbm, 287, rfl⟩
abbrev main_c_50 : Ref sig .tc := ⟨.hbm, 288, rfl⟩
abbrev main_v193 : Ref sig .tc := ⟨.hbm, 289, rfl⟩
abbrev main_v194 : Ref sig .tc := ⟨.hbm, 290, rfl⟩
abbrev main_c_51 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_c_52 : Ref sig .tc := ⟨.hbm, 297, rfl⟩
abbrev main_v200 : Ref sig .tc := ⟨.hbm, 298, rfl⟩
abbrev main_v201 : Ref sig .tc := ⟨.hbm, 299, rfl⟩
abbrev main_c_53 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_c_54 : Ref sig .tc := ⟨.hbm, 308, rfl⟩
abbrev main_v209 : Ref sig .tc := ⟨.hbm, 309, rfl⟩
abbrev main_v210 : Ref sig .tc := ⟨.hbm, 310, rfl⟩
abbrev main_c_55 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_cst_56 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_call8_cst : Ref sig .tc := ⟨.hbm, 332, rfl⟩
abbrev main_call8_v0 : Ref sig .tc := ⟨.hbm, 333, rfl⟩
abbrev main_v230 : Ref sig .tc := ⟨.hbm, 334, rfl⟩
abbrev main_v231 : Ref sig .tc := ⟨.hbm, 335, rfl⟩
abbrev main_call9_v0 : Ref sig .tc := ⟨.hbm, 336, rfl⟩
abbrev main_call9_cst : Ref sig .tc := ⟨.hbm, 337, rfl⟩
abbrev main_call9_v1 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_values_57 : Ref sig .tc := ⟨.hbm, 343, rfl⟩
abbrev main_indices_58 : Ref sig .tc := ⟨.hbm, 344, rfl⟩
abbrev main_c_59 : Ref sig .tc := ⟨.hbm, 345, rfl⟩
abbrev main_v236 : Ref sig .tc := ⟨.hbm, 346, rfl⟩
abbrev main_v237 : Ref sig .tc := ⟨.hbm, 347, rfl⟩
abbrev main_c_60 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_c_61 : Ref sig .tc := ⟨.hbm, 357, rfl⟩
abbrev main_v246 : Ref sig .tc := ⟨.hbm, 358, rfl⟩
abbrev main_v247 : Ref sig .tc := ⟨.hbm, 359, rfl⟩
abbrev main_c_62 : Ref sig .tc := ⟨.hbm, 360, rfl⟩
abbrev main_v248 : Ref sig .tc := ⟨.hbm, 361, rfl⟩
abbrev main_v249 : Ref sig .tc := ⟨.hbm, 362, rfl⟩
abbrev main_c_63 : Ref sig .tc := ⟨.hbm, 363, rfl⟩
abbrev main_v250 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_c_64 : Ref sig .tc := ⟨.hbm, 369, rfl⟩
abbrev main_v255 : Ref sig .tc := ⟨.hbm, 370, rfl⟩
abbrev main_v256 : Ref sig .tc := ⟨.hbm, 371, rfl⟩
abbrev main_c_65 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_c_66 : Ref sig .tc := ⟨.hbm, 378, rfl⟩
abbrev main_v262 : Ref sig .tc := ⟨.hbm, 379, rfl⟩
abbrev main_v263 : Ref sig .tc := ⟨.hbm, 380, rfl⟩
abbrev main_c_67 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_v267 : Ref sig .tc := ⟨.hbm, 385, rfl⟩
abbrev main_v268 : Ref sig .tc := ⟨.hbm, 386, rfl⟩
abbrev main_c_68 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_c_69 : Ref sig .tc := ⟨.hbm, 392, rfl⟩
abbrev main_v273 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_c_70 : Ref sig .tc := ⟨.hbm, 397, rfl⟩
abbrev main_v277 : Ref sig .tc := ⟨.hbm, 398, rfl⟩
abbrev main_v278 : Ref sig .tc := ⟨.hbm, 399, rfl⟩
abbrev main_c_71 : Ref sig .tc := ⟨.hbm, 400, rfl⟩
abbrev main_call10_v0 : Ref sig .tc := ⟨.hbm, 401, rfl⟩
abbrev main_call10_v1 : Ref sig .tc := ⟨.hbm, 402, rfl⟩
abbrev main_v279 : Ref sig .tc := ⟨.hbm, 403, rfl⟩
abbrev main_c_72 : Ref sig .tc := ⟨.hbm, 404, rfl⟩
abbrev main_v280 : Ref sig .tc := ⟨.hbm, 405, rfl⟩
abbrev main_v281 : Ref sig .tc := ⟨.hbm, 406, rfl⟩
abbrev main_c_73 : Ref sig .tc := ⟨.hbm, 407, rfl⟩
abbrev main_call11_v0 : Ref sig .tc := ⟨.hbm, 408, rfl⟩
abbrev main_call11_v1 : Ref sig .tc := ⟨.hbm, 409, rfl⟩
abbrev main_v282 : Ref sig .tc := ⟨.hbm, 410, rfl⟩
abbrev main_cst_74 : Ref sig .tc := ⟨.hbm, 411, rfl⟩
abbrev main_v283 : Ref sig .tc := ⟨.hbm, 412, rfl⟩
abbrev main_v284 : Ref sig .tc := ⟨.hbm, 413, rfl⟩
abbrev main_cst_75 : Ref sig .tc := ⟨.hbm, 414, rfl⟩
abbrev main_v285 : Ref sig .tc := ⟨.hbm, 415, rfl⟩
abbrev main_v286 : Ref sig .tc := ⟨.hbm, 416, rfl⟩
abbrev main_cst_76 : Ref sig .tc := ⟨.hbm, 417, rfl⟩
abbrev main_v287 : Ref sig .tc := ⟨.hbm, 418, rfl⟩
abbrev main_v288 : Ref sig .tc := ⟨.hbm, 419, rfl⟩
abbrev main_v289 : Ref sig .tc := ⟨.hbm, 420, rfl⟩
abbrev main_v290 : Ref sig .tc := ⟨.hbm, 421, rfl⟩
abbrev main_v291 : Ref sig .tc := ⟨.hbm, 422, rfl⟩
abbrev main_cst_77 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_cst_78 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_cst_79 : Ref sig .tc := ⟨.hbm, 431, rfl⟩
abbrev main_v298 : Ref sig .tc := ⟨.hbm, 432, rfl⟩
abbrev main_v299 : Ref sig .tc := ⟨.hbm, 433, rfl⟩
abbrev main_c_80 : Ref sig .tc := ⟨.hbm, 434, rfl⟩
abbrev main_v300 : Ref sig .tc := ⟨.hbm, 435, rfl⟩
abbrev main_v301 : Ref sig .tc := ⟨.hbm, 436, rfl⟩
abbrev main_c_81 : Ref sig .tc := ⟨.hbm, 437, rfl⟩
abbrev main_v302 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_v306 : Ref sig .tc := ⟨.hbm, 442, rfl⟩
abbrev main_c_82 : Ref sig .tc := ⟨.hbm, 443, rfl⟩
abbrev main_v307 : Ref sig .tc := ⟨.hbm, 444, rfl⟩
abbrev main_v308 : Ref sig .tc := ⟨.hbm, 445, rfl⟩
abbrev main_c_83 : Ref sig .tc := ⟨.hbm, 446, rfl⟩
abbrev main_v309 : Ref sig .tc := ⟨.hbm, 447, rfl⟩
abbrev main_v310 : Ref sig .tc := ⟨.hbm, 448, rfl⟩
abbrev main_v311 : Ref sig .tc := ⟨.hbm, 449, rfl⟩
abbrev main_v312 : Ref sig .tc := ⟨.hbm, 450, rfl⟩
abbrev main_v313 : Ref sig .tc := ⟨.hbm, 451, rfl⟩
abbrev main_v314 : Ref sig .tc := ⟨.hbm, 452, rfl⟩
abbrev main_v315 : Ref sig .tc := ⟨.hbm, 453, rfl⟩
abbrev main_c_84 : Ref sig .tc := ⟨.hbm, 454, rfl⟩
abbrev main_v316 : Ref sig .tc := ⟨.hbm, 455, rfl⟩
abbrev main_v317 : Ref sig .tc := ⟨.hbm, 456, rfl⟩
abbrev main_c_85 : Ref sig .tc := ⟨.hbm, 457, rfl⟩
abbrev main_v318 : Ref sig .tc := ⟨.hbm, 458, rfl⟩
abbrev main_v319 : Ref sig .tc := ⟨.hbm, 459, rfl⟩
abbrev main_v320 : Ref sig .tc := ⟨.hbm, 460, rfl⟩
abbrev main_v321 : Ref sig .tc := ⟨.hbm, 461, rfl⟩
abbrev main_v322 : Ref sig .tc := ⟨.hbm, 462, rfl⟩
abbrev main_v323 : Ref sig .tc := ⟨.hbm, 463, rfl⟩
abbrev main_v324 : Ref sig .tc := ⟨.hbm, 464, rfl⟩
abbrev main_v325 : Ref sig .tc := ⟨.hbm, 465, rfl⟩
abbrev main_cst_86 : Ref sig .tc := ⟨.hbm, 466, rfl⟩
abbrev main_v326 : Ref sig .tc := ⟨.hbm, 467, rfl⟩
abbrev main_v327 : Ref sig .tc := ⟨.hbm, 468, rfl⟩
abbrev main_v328 : Ref sig .tc := ⟨.hbm, 469, rfl⟩
abbrev main_v329 : Ref sig .tc := ⟨.hbm, 470, rfl⟩
abbrev main_v330 : Ref sig .tc := ⟨.hbm, 471, rfl⟩
abbrev main_v331 : Ref sig .tc := ⟨.hbm, 472, rfl⟩
abbrev main_v332 : Ref sig .tc := ⟨.hbm, 473, rfl⟩
abbrev main_v333 : Ref sig .tc := ⟨.hbm, 474, rfl⟩
abbrev main_v334 : Ref sig .tc := ⟨.hbm, 475, rfl⟩
abbrev main_v335 : Ref sig .tc := ⟨.hbm, 476, rfl⟩
abbrev main_v336 : Ref sig .tc := ⟨.hbm, 477, rfl⟩
abbrev main_call12_cst : Ref sig .tc := ⟨.hbm, 478, rfl⟩
abbrev main_call12_v0 : Ref sig .tc := ⟨.hbm, 479, rfl⟩
abbrev main_v337 : Ref sig .tc := ⟨.hbm, 480, rfl⟩
abbrev main_v338 : Ref sig .tc := ⟨.hbm, 481, rfl⟩
abbrev main_call13_v0 : Ref sig .tc := ⟨.hbm, 482, rfl⟩
abbrev main_call13_cst : Ref sig .tc := ⟨.hbm, 483, rfl⟩
abbrev main_call13_v1 : Ref sig .tc := ⟨.hbm, 484, rfl⟩
abbrev main_v339 : Ref sig .tc := ⟨.hbm, 485, rfl⟩
abbrev main_v340 : Ref sig .tc := ⟨.hbm, 486, rfl⟩
abbrev main_v341 : Ref sig .tc := ⟨.hbm, 487, rfl⟩
abbrev main_v342 : Ref sig .tc := ⟨.hbm, 488, rfl⟩
abbrev main_values_87 : Ref sig .tc := ⟨.hbm, 489, rfl⟩
abbrev main_indices_88 : Ref sig .tc := ⟨.hbm, 490, rfl⟩
abbrev main_c_89 : Ref sig .tc := ⟨.hbm, 491, rfl⟩
abbrev main_v343 : Ref sig .tc := ⟨.hbm, 492, rfl⟩
abbrev main_v344 : Ref sig .tc := ⟨.hbm, 493, rfl⟩
abbrev main_c_90 : Ref sig .tc := ⟨.hbm, 494, rfl⟩
abbrev main_v345 : Ref sig .tc := ⟨.hbm, 495, rfl⟩
abbrev main_v346 : Ref sig .tc := ⟨.hbm, 496, rfl⟩
abbrev main_v347 : Ref sig .tc := ⟨.hbm, 497, rfl⟩
abbrev main_v348 : Ref sig .tc := ⟨.hbm, 498, rfl⟩
abbrev main_v349 : Ref sig .tc := ⟨.hbm, 499, rfl⟩
abbrev main_v350 : Ref sig .tc := ⟨.hbm, 500, rfl⟩
abbrev main_v351 : Ref sig .tc := ⟨.hbm, 501, rfl⟩
abbrev main_v352 : Ref sig .tc := ⟨.hbm, 502, rfl⟩
abbrev main_c_91 : Ref sig .tc := ⟨.hbm, 503, rfl⟩
abbrev main_v353 : Ref sig .tc := ⟨.hbm, 504, rfl⟩
abbrev main_v354 : Ref sig .tc := ⟨.hbm, 505, rfl⟩
abbrev main_c_92 : Ref sig .tc := ⟨.hbm, 506, rfl⟩
abbrev main_v355 : Ref sig .tc := ⟨.hbm, 507, rfl⟩
abbrev main_v356 : Ref sig .tc := ⟨.hbm, 508, rfl⟩
abbrev main_c_93 : Ref sig .tc := ⟨.hbm, 509, rfl⟩
abbrev main_v357 : Ref sig .tc := ⟨.hbm, 510, rfl⟩
abbrev main_v358 : Ref sig .tc := ⟨.hbm, 511, rfl⟩
abbrev main_v359 : Ref sig .tc := ⟨.hbm, 512, rfl⟩
abbrev main_v360 : Ref sig .tc := ⟨.hbm, 513, rfl⟩
abbrev main_v361 : Ref sig .tc := ⟨.hbm, 514, rfl⟩
abbrev main_c_94 : Ref sig .tc := ⟨.hbm, 515, rfl⟩
abbrev main_v362 : Ref sig .tc := ⟨.hbm, 516, rfl⟩
abbrev main_v363 : Ref sig .tc := ⟨.hbm, 517, rfl⟩
abbrev main_c_95 : Ref sig .tc := ⟨.hbm, 518, rfl⟩
abbrev main_v364 : Ref sig .tc := ⟨.hbm, 519, rfl⟩
abbrev main_v365 : Ref sig .tc := ⟨.hbm, 520, rfl⟩
abbrev main_v366 : Ref sig .tc := ⟨.hbm, 521, rfl⟩
abbrev main_v367 : Ref sig .tc := ⟨.hbm, 522, rfl⟩
abbrev main_v368 : Ref sig .tc := ⟨.hbm, 523, rfl⟩
abbrev main_c_96 : Ref sig .tc := ⟨.hbm, 524, rfl⟩
abbrev main_v369 : Ref sig .tc := ⟨.hbm, 525, rfl⟩
abbrev main_v370 : Ref sig .tc := ⟨.hbm, 526, rfl⟩
abbrev main_c_97 : Ref sig .tc := ⟨.hbm, 527, rfl⟩
abbrev main_v371 : Ref sig .tc := ⟨.hbm, 528, rfl⟩
abbrev main_v372 : Ref sig .tc := ⟨.hbm, 529, rfl⟩
abbrev main_v373 : Ref sig .tc := ⟨.hbm, 530, rfl⟩
abbrev main_v374 : Ref sig .tc := ⟨.hbm, 531, rfl⟩
abbrev main_v375 : Ref sig .tc := ⟨.hbm, 532, rfl⟩
abbrev main_c_98 : Ref sig .tc := ⟨.hbm, 533, rfl⟩
abbrev main_v376 : Ref sig .tc := ⟨.hbm, 534, rfl⟩
abbrev main_v377 : Ref sig .tc := ⟨.hbm, 535, rfl⟩
abbrev main_v378 : Ref sig .tc := ⟨.hbm, 536, rfl⟩
abbrev main_v379 : Ref sig .tc := ⟨.hbm, 537, rfl⟩
abbrev main_c_99 : Ref sig .tc := ⟨.hbm, 538, rfl⟩
abbrev main_v380 : Ref sig .tc := ⟨.hbm, 539, rfl⟩
abbrev main_v381 : Ref sig .tc := ⟨.hbm, 540, rfl⟩
abbrev main_v382 : Ref sig .tc := ⟨.hbm, 541, rfl⟩
abbrev main_v383 : Ref sig .tc := ⟨.hbm, 542, rfl⟩
abbrev main_c_100 : Ref sig .tc := ⟨.hbm, 543, rfl⟩
abbrev main_v384 : Ref sig .tc := ⟨.hbm, 544, rfl⟩
abbrev main_v385 : Ref sig .tc := ⟨.hbm, 545, rfl⟩
abbrev main_c_101 : Ref sig .tc := ⟨.hbm, 546, rfl⟩
abbrev main_call14_v0 : Ref sig .tc := ⟨.hbm, 547, rfl⟩
abbrev main_call14_v1 : Ref sig .tc := ⟨.hbm, 548, rfl⟩
abbrev main_v386 : Ref sig .tc := ⟨.hbm, 549, rfl⟩
abbrev main_c_102 : Ref sig .tc := ⟨.hbm, 550, rfl⟩
abbrev main_v387 : Ref sig .tc := ⟨.hbm, 551, rfl⟩
abbrev main_v388 : Ref sig .tc := ⟨.hbm, 552, rfl⟩
abbrev main_c_103 : Ref sig .tc := ⟨.hbm, 553, rfl⟩
abbrev main_call15_v0 : Ref sig .tc := ⟨.hbm, 554, rfl⟩
abbrev main_call15_v1 : Ref sig .tc := ⟨.hbm, 555, rfl⟩
abbrev main_v389 : Ref sig .tc := ⟨.hbm, 556, rfl⟩
abbrev main_cst_104 : Ref sig .tc := ⟨.hbm, 557, rfl⟩
abbrev main_v390 : Ref sig .tc := ⟨.hbm, 558, rfl⟩
abbrev main_v391 : Ref sig .tc := ⟨.hbm, 559, rfl⟩
abbrev main_cst_105 : Ref sig .tc := ⟨.hbm, 560, rfl⟩
abbrev main_v392 : Ref sig .tc := ⟨.hbm, 561, rfl⟩
abbrev main_v393 : Ref sig .tc := ⟨.hbm, 562, rfl⟩
abbrev main_cst_106 : Ref sig .tc := ⟨.hbm, 563, rfl⟩
abbrev main_v394 : Ref sig .tc := ⟨.hbm, 564, rfl⟩
abbrev main_v395 : Ref sig .tc := ⟨.hbm, 565, rfl⟩
abbrev main_v396 : Ref sig .tc := ⟨.hbm, 566, rfl⟩
abbrev main_v397 : Ref sig .tc := ⟨.hbm, 567, rfl⟩
abbrev main_v398 : Ref sig .tc := ⟨.hbm, 568, rfl⟩
abbrev main_v399 : Ref sig .tc := ⟨.hbm, 569, rfl⟩
abbrev main_v400 : Ref sig .tc := ⟨.hbm, 570, rfl⟩
abbrev main_v401 : Ref sig .tc := ⟨.hbm, 571, rfl⟩
abbrev main_v402 : Ref sig .tc := ⟨.hbm, 572, rfl⟩
abbrev main_v403 : Ref sig .tc := ⟨.hbm, 573, rfl⟩
abbrev main_call16_cst : Ref sig .tc := ⟨.hbm, 574, rfl⟩
abbrev main_call16_v0 : Ref sig .tc := ⟨.hbm, 575, rfl⟩
abbrev main_v404 : Ref sig .tc := ⟨.hbm, 576, rfl⟩
abbrev main_v405 : Ref sig .tc := ⟨.hbm, 577, rfl⟩
abbrev main_v406 : Ref sig .tc := ⟨.hbm, 578, rfl⟩
abbrev main_v407 : Ref sig .tc := ⟨.hbm, 579, rfl⟩
abbrev main_v408 : Ref sig .tc := ⟨.hbm, 580, rfl⟩
abbrev main_call17_cst : Ref sig .tc := ⟨.hbm, 581, rfl⟩
abbrev main_call17_v0 : Ref sig .tc := ⟨.hbm, 582, rfl⟩
abbrev main_v409 : Ref sig .tc := ⟨.hbm, 583, rfl⟩
abbrev main_v410 : Ref sig .tc := ⟨.hbm, 584, rfl⟩
abbrev main_v411 : Ref sig .tc := ⟨.hbm, 585, rfl⟩
abbrev main_v412 : Ref sig .tc := ⟨.hbm, 586, rfl⟩
abbrev main_v413 : Ref sig .tc := ⟨.hbm, 587, rfl⟩
abbrev main_cst_107 : Ref sig .tc := ⟨.hbm, 588, rfl⟩
abbrev main_v414 : Ref sig .tc := ⟨.hbm, 589, rfl⟩
abbrev main_cst_108 : Ref sig .tc := ⟨.hbm, 590, rfl⟩
abbrev main_v415 : Ref sig .tc := ⟨.hbm, 591, rfl⟩
abbrev main_v416 : Ref sig .tc := ⟨.hbm, 592, rfl⟩
abbrev main_v417 : Ref sig .tc := ⟨.hbm, 593, rfl⟩
abbrev main_v418 : Ref sig .tc := ⟨.hbm, 594, rfl⟩
abbrev main_v419 : Ref sig .tc := ⟨.hbm, 595, rfl⟩
abbrev main_v420 : Ref sig .tc := ⟨.hbm, 596, rfl⟩
abbrev main_cst_109 : Ref sig .tc := ⟨.hbm, 597, rfl⟩
abbrev main_v421 : Ref sig .tc := ⟨.hbm, 598, rfl⟩
abbrev main_v422 : Ref sig .tc := ⟨.hbm, 599, rfl⟩
abbrev main_v423 : Ref sig .tc := ⟨.hbm, 600, rfl⟩
abbrev main_v424 : Ref sig .tc := ⟨.hbm, 601, rfl⟩

abbrev nD : Nat := 1
abbrev τ : Topo := Topo.v7x

variable {F : FTy → Type} [FloatOps F]
-- ==== Proof.Lines.lean ====
/- The kernel program's host operations as nine consecutive stages, what each stage leaves alone, and the
   contents the compiled region finds as the nine stages run one after the other. -/
module

public import proofs.«01_k».proof.Proof.Gen.KernelIdeal.Launch
public import Idealize.ShloMosaic.Lib.StableHlo.RunRead

@[expose] public section

set_option maxRecDepth 16384

noncomputable section

namespace Cert.KernelIdeal.Stage

open Cert.KernelIdeal Cert.KernelIdeal.Gen Idealize.ShloMosaic Idealize.ShloMosaic.TcCoe Idealize.ShloMosaic.StableHlo

variable {F : FTy → Type} [FloatOps F]

/-- The first mean-aggregation layer. -/
abbrev sage1 : List (HloOp τ sig (Elt F)) := hostOps0 ++ (hostOps0_1 ++ (hostOps0_2 ++ hostOps0_3))
/-- The first pooling. -/
abbrev pool1 : List (HloOp τ sig (Elt F)) := hostOps0_4 ++ (hostOps0_5 ++ (hostOps0_6 ++ (hostOps0_7 ++ (hostOps0_8 ++ hostOps0_9))))
/-- The second mean-aggregation layer. -/
abbrev sage2 : List (HloOp τ sig (Elt F)) := hostOps0_10 ++ (hostOps0_11 ++ (hostOps0_12 ++ hostOps0_13))
/-- The second pooling. -/
abbrev pool2 : List (HloOp τ sig (Elt F)) := hostOps0_14 ++ (hostOps0_15 ++ (hostOps0_16 ++ (hostOps0_17 ++ (hostOps0_18 ++ hostOps0_19))))
/-- The first normalized convolution. -/
abbrev gcn3 : List (HloOp τ sig (Elt F)) := hostOps0_20 ++ hostOps0_21
/-- The third pooling. -/
abbrev pool3 : List (HloOp τ sig (Elt F)) := hostOps0_22 ++ (hostOps0_23 ++ (hostOps0_24 ++ (hostOps0_25 ++ (hostOps0_26 ++ hostOps0_27))))
/-- The second normalized convolution. -/
abbrev gcn4 : List (HloOp τ sig (Elt F)) := hostOps0_28 ++ hostOps0_29
/-- The fourth pooling. -/
abbrev pool4 : List (HloOp τ sig (Elt F)) := hostOps0_30 ++ (hostOps0_31 ++ (hostOps0_32 ++ (hostOps0_33 ++ (hostOps0_34 ++ hostOps0_35))))
/-- The padding of the four pooled arrays. -/
abbrev pads : List (HloOp τ sig (Elt F)) := hostOps0_36 ++ (hostOps0_37 ++ (hostOps0_38 ++ (hostOps0_39 ++ (hostOps0_40 ++ (hostOps0_41 ++ (hostOps0_42 ++ hostOps0_43))))))

/-- All the lines of host operations, in order. -/
abbrev lines : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20, hostOps0_21, hostOps0_22, hostOps0_23, hostOps0_24, hostOps0_25, hostOps0_26, hostOps0_27,
   hostOps0_28, hostOps0_29, hostOps0_30, hostOps0_31, hostOps0_32, hostOps0_33, hostOps0_34, hostOps0_35, hostOps0_36,
   hostOps0_37, hostOps0_38, hostOps0_39, hostOps0_40, hostOps0_41, hostOps0_42, hostOps0_43]

/-- Running two lines joined is running the one after the other. -/
theorem after_join (a b : List (HloOp τ sig (Elt F))) (V : Valuation τ sig (Elt F)) : after (a ++ b) V = after b (after a V) := by
  induction a generalizing V with
  | nil => rfl
  | cons op a ih => exact ih _

/-- The contents after all the lines: the nine stages one after the other. -/
theorem after_lines (V : Valuation τ sig (Elt F)) :
    after (List.flatten lines) V
      = after pads (after pool4 (after gcn4 (after pool3 (after gcn3 (after pool2 (after sage2 (after pool1 (after sage1 V)))))))) := by
  simp only [List.flatten_cons, List.flatten_nil, List.append_nil, after_join]

/-- The HBM buffer number `k`. -/
abbrev buf (k : Fin 610) : Ref sig .tc := ⟨.hbm, k, rfl⟩

/-- The HBM buffers number `a` to `a + n - 1`. -/
abbrev bufs (a n : ℕ) : List (Ref sig .tc) := (List.range' a n).map fun k => buf (Fin.ofNat 610 k)

/-- All the lines write the HBM buffers from number 23 on in order, one each. -/
theorem lines_writes : (List.flatten (lines (F := F))).map HloOp.writes
    = (bufs 23 586).map fun w => {Proc.devRef (τ := τ) .tc w} := rfl

/-- A buffer numbered below `a` is not among those from `a` on. -/
theorem not_mem_bufs {a n : ℕ} {k : Fin 610} (h : k.val < a) (ha : a + n ≤ 610) : buf k ∉ bufs a n := by
  intro hk
  obtain ⟨j, hj, he⟩ := List.mem_map.mp hk
  obtain ⟨hj1, hj2⟩ := List.mem_range'_1.mp hj
  have e : (Fin.ofNat 610 j).val = k.val := congrArg (fun r : Ref sig .tc => r.idx.val) he
  simp only [Fin.ofNat] at e
  rw [Nat.mod_eq_of_lt (by omega)] at e
  omega

/-- The 23 arguments are kept by all the lines. -/
theorem after_lines_arg (k : Fin 610) (hk : k.val < 23) (V : Valuation τ sig (Elt F)) :
    after (List.flatten lines) V (Proc.devRef .tc (buf k)) = V (Proc.devRef .tc (buf k)) :=
  after_of_writes_sub _ _ (forall_writes_sub_of_map lines_writes) (not_mem_bufs hk (by omega))

end Cert.KernelIdeal.Stage

end
-- ==== Proof.Frame.lean ====
/- The run of the kernel program over any float values: the host lines, then the one compiled region, whose body
   reads its ten whole input arrays and stores its one result. From it come the kernel's frame and the contents of
   the result. -/
module

public import proofs.«01_k».proof.Proof.Lines
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic

@[expose] public section

set_option maxRecDepth 16384

noncomputable section

namespace Cert.KernelIdeal.Stage

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Device `c`'s buffers when the region is entered: the host lines run from the launch contents. -/
abbrev entry (c : Dev nD) (b : Ref sig .tc) : Buf (Elt F) ((c : Thread nD τ).loc b) :=
  StableHlo.after (List.flatten lines) (fun b => m (c, b)) b

/-- No host operation allocates a buffer. -/
theorem lines_fresh : (lines : List (List (HloOp τ sig (Elt F)))).Forall fun ops => ops.Forall fun op => op.fresh = ∅ := by
  simp only [List.Forall]; repeat' constructor

set_option maxHeartbeats 800000 in
/-- The program is the host lines and then the region. -/
theorem to_region (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main lines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub⟩)
    lines_fresh main_chain

/-- The region finds each of the 23 arguments as launched. -/
theorem entry_arg (c : Dev nD) (k : Fin 610) (hk : k.val < 23) : entry m c (buf k) = m ((c : Thread nD τ).loc (buf k)) :=
  after_lines_arg k hk _

/-! ## The body -/

/-- Window `w`'s block at point `t` of the array the region finds. -/
def inBlock (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- What the body computes from its ten input arrays: the softmax of the readouts' three-layer network. -/
def headOf (x0 : Vec F S25000x64 .f32) (x1 : Vec F S12504x64 .f32) (x2 : Vec F S6256x64 .f32) (x3 : Vec F S3128x64 .f32) (x4 : Vec F S128x128 .f32) (x5 : Vec F S128 .f32) (x6 : Vec F S64x128 .f32) (x7 : Vec F S64 .f32) (x8 : Vec F S2x64 .f32) (x9 : Vec F S2 .f32) :
    Vec F S1x2 .f32 :=
  k0_pay1 (k0_pay4 (k0_pay2 x0 x1) (iota .tc S6256x1 32 [0] iota_S6256x1_d0_w32) k0_pay3 x2 x3) (k0_pay5 x4)
    (constant S1x128 .f32 0x00000000#32) x5 x6 x7 x8 x9

/-- The one store of the body, as a piece: the whole result, computed from whole loads. -/
abbrev stored (x0 : Vec F S25000x64 .f32) (x1 : Vec F S12504x64 .f32) (x2 : Vec F S6256x64 .f32) (x3 : Vec F S3128x64 .f32) (x4 : Vec F S128x128 .f32) (x5 : Vec F S128 .f32) (x6 : Vec F S64x128 .f32) (x7 : Vec F S64 .f32) (x8 : Vec F S2x64 .f32) (x9 : Vec F S2 .f32) :
    List (View.Piece (Elt F) S1x2 .f32) :=
  [⟨Rect.unit (s := S1x2) ![0, 0] S1x2.size inb_S1x2_S1x2_0_0,
    headOf (View.ld x0 (Rect.unit (s := S25000x64) ![0, 0] S25000x64.size inb_S25000x64_S25000x64_0_0)) (View.ld x1 (Rect.unit (s := S12504x64) ![0, 0] S12504x64.size inb_S12504x64_S12504x64_0_0)) (View.ld x2 (Rect.unit (s := S6256x64) ![0, 0] S6256x64.size inb_S6256x64_S6256x64_0_0)) (View.ld x3 (Rect.unit (s := S3128x64) ![0, 0] S3128x64.size inb_S3128x64_S3128x64_0_0)) (View.ld x4 (Rect.unit (s := S128x128) ![0, 0] S128x128.size inb_S128x128_S128x128_0_0)) (View.ld x5 (Rect.unit (s := S128) ![0] S128.size inb_S128_S128_0)) (View.ld x6 (Rect.unit (s := S64x128) ![0, 0] S64x128.size inb_S64x128_S64x128_0_0)) (View.ld x7 (Rect.unit (s := S64) ![0] S64.size inb_S64_S64_0)) (View.ld x8 (Rect.unit (s := S2x64) ![0, 0] S2x64.size inb_S2x64_S2x64_0_0)) (View.ld x9 (Rect.unit (s := S2) ![0] S2.size inb_S2_S2_0))⟩]

/-- The buffer the body leaves: its one store read back is the computed head. -/
theorem canon_stored (x0 : Vec F S25000x64 .f32) (x1 : Vec F S12504x64 .f32) (x2 : Vec F S6256x64 .f32) (x3 : Vec F S3128x64 .f32) (x4 : Vec F S128x128 .f32) (x5 : Vec F S128 .f32) (x6 : Vec F S64x128 .f32) (x7 : Vec F S64 .f32) (x8 : Vec F S2x64 .f32) (x9 : Vec F S2 .f32) :
    View.canon (stored x0 x1 x2 x3 x4 x5 x6 x7 x8 x9) = headOf x0 x1 x2 x3 x4 x5 x6 x7 x8 x9 := by
  unfold stored
  rw [View.canon_unit_zero (by funext a; fin_cases a <;> rfl)]
  simp (disch := decide) only [View.ld_unit_lit']

set_option maxHeartbeats 1000000 in
/-- The body, run on whole staging buffers, keeps its ten inputs and leaves the head of their contents. -/
theorem body_runs (c : Dev nD) (E : Set ℕ) (arg0 : Memref sig .tc .vmem S25000x64 .f32) (harg0 : arg0.IsWhole) (arg1 : Memref sig .tc .vmem S12504x64 .f32) (harg1 : arg1.IsWhole) (arg2 : Memref sig .tc .vmem S6256x64 .f32) (harg2 : arg2.IsWhole) (arg3 : Memref sig .tc .vmem S3128x64 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S2x64 .f32) (harg8 : arg8.IsWhole) (arg9 : Memref sig .tc .vmem S2 .f32) (harg9 : arg9.IsWhole) (arg10 : Memref sig .tc .vmem S1x2 .f32) (harg10 : arg10.IsWhole)
    (x0 : Vec F S25000x64 .f32) (x1 : Vec F S12504x64 .f32) (x2 : Vec F S6256x64 .f32) (x3 : Vec F S3128x64 .f32) (x4 : Vec F S128x128 .f32) (x5 : Vec F S128 .f32) (x6 : Vec F S64x128 .f32) (x7 : Vec F S64 .f32) (x8 : Vec F S2x64 .f32) (x9 : Vec F S2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
          ∗ owns (c : Thread nD τ) arg10 fullShare (headOf x0 x1 x2 x3 x4 x5 x6 x7 x8 x9)) -∗ K ⟨⟩))
      ⊢ wp frame (wpE (defs₀ (F := F)) Variants.none c none) E (cc0__head_kernel arg0 harg0 arg1 harg1 arg2 harg2 arg3 harg3 arg4 harg4 arg5 harg5 arg6 harg6 arg7 harg7 arg8 harg8 arg9 harg9 arg10 harg10) K := by
  rw [← canon_stored]
  simp only [cc0__head_kernel_eq_skeleton]; unfold cc0__head_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (View.cover_of_tiled _ S1x2.size (by rfl))

/-! ## The pipeline's data -/

/-- The one pipeline's data on device `c`: its arrays as the region finds them, each input's buffer kept by the body, the
    output's left at the head of the input blocks. -/
def data (_ : Fin 1) (c : Dev nD) : Dat τ (Elt F) Unit ℕ (UR sig nD τ) ℕ cfg0 c where
  A w := entry m c (Pipeline.arrRef spec0 w)
  after w t := match w with
    | ⟨0, _⟩ => inBlock m c 0 t
    | ⟨1, _⟩ => inBlock m c 1 t
    | ⟨2, _⟩ => inBlock m c 2 t
    | ⟨3, _⟩ => inBlock m c 3 t
    | ⟨4, _⟩ => inBlock m c 4 t
    | ⟨5, _⟩ => inBlock m c 5 t
    | ⟨6, _⟩ => inBlock m c 6 t
    | ⟨7, _⟩ => inBlock m c 7 t
    | ⟨8, _⟩ => inBlock m c 8 t
    | ⟨9, _⟩ => inBlock m c 9 t
    | ⟨10, _⟩ => headOf (inBlock m c 0 t) (inBlock m c 1 t) (inBlock m c 2 t) (inBlock m c 3 t) (inBlock m c 4 t) (inBlock m c 5 t) (inBlock m c 6 t) (inBlock m c 7 t) (inBlock m c 8 t) (inBlock m c 9 t)
  Φ _ := Pipeline.ΦA spec0 c
  q _ := fullShare
  owed _ := 0

/-- The data's arrays are those the region finds. -/
theorem data_A (c : Dev nD) (w : Fin cfg0.W) : (data m 0 c).A w = entry m c (Pipeline.arrRef spec0 w) := by
  dsimp only [data]

/-- After the body each input's buffer holds its block. -/
theorem data_after_in (c : Dev nD) (t : Fin cfg0.N) :
    (data m 0 c).after 0 t = inBlock m c 0 t
      ∧ (data m 0 c).after 1 t = inBlock m c 1 t
      ∧ (data m 0 c).after 2 t = inBlock m c 2 t
      ∧ (data m 0 c).after 3 t = inBlock m c 3 t
      ∧ (data m 0 c).after 4 t = inBlock m c 4 t
      ∧ (data m 0 c).after 5 t = inBlock m c 5 t
      ∧ (data m 0 c).after 6 t = inBlock m c 6 t
      ∧ (data m 0 c).after 7 t = inBlock m c 7 t
      ∧ (data m 0 c).after 8 t = inBlock m c 8 t
      ∧ (data m 0 c).after 9 t = inBlock m c 9 t := by
  refine ⟨?_, ?_, ?_, ?_, ?_, ?_, ?_, ?_, ?_, ?_⟩ <;> dsimp only [data]

/-- After the body the output's buffer holds the head of the input blocks. -/
theorem data_after_out (c : Dev nD) (t : Fin cfg0.N) : (data m 0 c).after 10 t = headOf (inBlock m c 0 t) (inBlock m c 1 t) (inBlock m c 2 t) (inBlock m c 3 t) (inBlock m c 4 t) (inBlock m c 5 t) (inBlock m c 6 t) (inBlock m c 7 t) (inBlock m c 8 t) (inBlock m c 9 t) := by
  dsimp only [data]

/-- Before the body each input's buffer holds its block. -/
theorem data_before (c : Dev nD) (t : Fin cfg0.N) :
    (∀ d, (data m 0 c).before 0 t d = inBlock m c 0 t)
      ∧ (∀ d, (data m 0 c).before 1 t d = inBlock m c 1 t)
      ∧ (∀ d, (data m 0 c).before 2 t d = inBlock m c 2 t)
      ∧ (∀ d, (data m 0 c).before 3 t d = inBlock m c 3 t)
      ∧ (∀ d, (data m 0 c).before 4 t d = inBlock m c 4 t)
      ∧ (∀ d, (data m 0 c).before 5 t d = inBlock m c 5 t)
      ∧ (∀ d, (data m 0 c).before 6 t d = inBlock m c 6 t)
      ∧ (∀ d, (data m 0 c).before 7 t d = inBlock m c 7 t)
      ∧ (∀ d, (data m 0 c).before 8 t d = inBlock m c 8 t)
      ∧ (∀ d, (data m 0 c).before 9 t d = inBlock m c 9 t) := by
  refine ⟨?_, ?_, ?_, ?_, ?_, ?_, ?_, ?_, ?_, ?_⟩ <;> intro d <;>
  exact ((data m 0 c).before_in_eq_fetched _ rfl (fun _ => rfl) (fun _ _ _ => rfl)
      (fun t => by unfold Dat.blockOf; rw [data_A]; dsimp only [data]; unfold inBlock; try rfl) t d).trans
    (by unfold Dat.fetched Dat.blockOf inBlock; rw [data_A]; try rfl)

/-- What the body is run with at point `t`. -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d)))

/-- What it leaves. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ owns (c : Thread nD τ) (st0_10 t) fullShare ((data m 0 c).after 10 t))

/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3, b4, b5, b6, b7, b8, b9⟩ := data_before m c t
  obtain ⟨a0, a1, a2, a3, a4, a5, a6, a7, a8, a9⟩ := data_after_in m c t
  simp only [b0, b1, b2, b3, b4, b5, b6, b7, b8, b9]
  rw [show (data m 0 c).Φ t.succ = (data m 0 c).Φ t.castSucc from rfl,
    show (data m 0 c).owesAt () t.succ = (data m 0 c).owesAt () t.castSucc from rfl,
    a0, a1, a2, a3, a4, a5, a6, a7, a8, a9, data_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ _ _ _ _ _ _ _ _ _ _ _ _ _ _ _ _ _ _ _ _ _ _ (inBlock m c 0 t) (inBlock m c 1 t) (inBlock m c 2 t) (inBlock m c 3 t) (inBlock m c 4 t) (inBlock m c 5 t) (inBlock m c 6 t) (inBlock m c 7 t) (inBlock m c 8 t) (inBlock m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the launch. -/
theorem body_ok (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

/-! ## The run -/

set_option backward.isDefEq.respectTransparency.types false in
set_option maxHeartbeats 800000 in
/-- Every execution ends, with the region's arrays as the data says, every other buffer as the region found it, and every
    semaphore counter at zero. -/
theorem run : θ_run defs (onTc (τ := τ) (main (F := F))) (s₀ m ρ)
    (fun r => (Pipeline.FramePost cfgs (data m) 0 (entry m)) r ∧ r.2.sem = fun _ => 0) :=
  Pipeline.θ_run_frame (Q' := _) cfgs (data m) (0 : Fin 1) launch0 defs₀ Variants.none m ρ main
    (hbody := fun c => (body_ok m c).loose) (hshare := fun c => (data m 0 c).share_full fun _ => rfl)
    (howed := fun _ _ => rfl) (V := entry m) (hmain := to_region m Variants.none) (hA := data_A m) (hΦ := fun _ _ => rfl)

/-- An argument that no window stages ends as launched. -/
theorem arg_rest {r : PUnit × MemSt nD τ sig (Elt F)} (h : Pipeline.FramePost cfgs (data m) 0 (entry m) r) (c : Dev nD)
    (k : Fin 610) (hk : k.val < 17) : r.2.mem ((c : Thread nD τ).loc (buf k)) = m ((c : Thread nD τ).loc (buf k)) := by
  refine ((h c).2 (buf k) ?_).trans (entry_arg m c k (by omega))
  refine Pipeline.mem_restRefs_of (buf k) (by rfl) fun w hw => ?_
  have e : (Pipeline.arrRef spec0 w).idx.val = k.val := congrArg (fun r : Ref sig .tc => r.idx.val) hw
  have := (by decide : ∀ w, 17 ≤ (Pipeline.arrRef spec0 w).idx.val) w
  omega

/-- An argument that an input window stages ends as launched. -/
theorem arg_staged {r : PUnit × MemSt nD τ sig (Elt F)} (h : Pipeline.FramePost cfgs (data m) 0 (entry m) r) (c : Dev nD)
    (w : Fin cfg0.W) (hw : (cfg0.win w).isOut = false) :
    r.2.mem ((c : Thread nD τ).loc (Pipeline.arrRef spec0 w)) = entry m c (Pipeline.arrRef spec0 w) :=
  ((h c).1 w).trans (((data m 0 c).arrAt_in w hw _).trans (data_A m c w))

/-- Every argument ends as launched. -/
theorem args_kept {r : PUnit × MemSt nD τ sig (Elt F)} (h : Pipeline.FramePost cfgs (data m) 0 (entry m) r) (c : Dev nD)
    (k : Fin 610) (hk : k.val < 23) : r.2.mem ((c : Thread nD τ).loc (buf k)) = m ((c : Thread nD τ).loc (buf k)) := by
  by_cases h17 : k.val < 17
  · exact arg_rest m h c k h17
  · have : k = 17 ∨ k = 18 ∨ k = 19 ∨ k = 20 ∨ k = 21 ∨ k = 22 := by omega
    rcases this with rfl | rfl | rfl | rfl | rfl | rfl
    · exact (arg_staged m h c 4 rfl).trans (entry_arg m c 17 (by decide))
    · exact (arg_staged m h c 5 rfl).trans (entry_arg m c 18 (by decide))
    · exact (arg_staged m h c 6 rfl).trans (entry_arg m c 19 (by decide))
    · exact (arg_staged m h c 7 rfl).trans (entry_arg m c 20 (by decide))
    · exact (arg_staged m h c 8 rfl).trans (entry_arg m c 21 (by decide))
    · exact (arg_staged m h c 9 rfl).trans (entry_arg m c 22 (by decide))

end Cert.KernelIdeal.Stage

end
-- ==== Proof.Same.lean ====
/- The kernel and its idealization have the same text. -/
module

public import proofs.«01_k».proof.Proof.Gen.Kernel
public import proofs.«01_k».proof.Proof.Gen.KernelIdeal

@[expose] public section

set_option maxRecDepth 16384

noncomputable section

namespace Cert.Same

open Idealize.ShloMosaic Idealize.ShloMosaic.TcCoe

variable {F : FTy → Type} [FloatOps F]

/-- The two tables of bodies are the same. -/
theorem defs0_eq : Cert.Kernel.defs₀ (F := F) = Cert.KernelIdeal.defs₀ (F := F) := by
  unfold Cert.Kernel.defs₀ Cert.KernelIdeal.defs₀
  refine congrArg _ ?_
  funext x y
  fin_cases x
  obtain ⟨t, s⟩ := y
  rfl

/-- The two programs' tables are the same. -/
theorem defs_eq : Cert.Kernel.defs (F := F) = Cert.KernelIdeal.defs (F := F) := by
  unfold Cert.Kernel.defs Cert.KernelIdeal.defs
  exact congrArg (Pipeline.defs (Cert.KernelIdeal.pcfgs (F := F))) defs0_eq

set_option maxHeartbeats 40000000

/-- Window 0 of the host function. -/
theorem part0_eq : Cert.Kernel.main_part0 (F := F) = Cert.KernelIdeal.main_part0 (F := F) := rfl

/-- Window 1 of the host function. -/
theorem part1_eq : Cert.Kernel.main_part1 (F := F) = Cert.KernelIdeal.main_part1 (F := F) := rfl

/-- Window 2 of the host function. -/
theorem part2_eq : Cert.Kernel.main_part2 (F := F) = Cert.KernelIdeal.main_part2 (F := F) := rfl

/-- Window 3 of the host function. -/
theorem part3_eq : Cert.Kernel.main_part3 (F := F) = Cert.KernelIdeal.main_part3 (F := F) := rfl

/-- Window 4 of the host function. -/
theorem part4_eq : Cert.Kernel.main_part4 (F := F) = Cert.KernelIdeal.main_part4 (F := F) := rfl

/-- Window 5 of the host function. -/
theorem part5_eq : Cert.Kernel.main_part5 (F := F) = Cert.KernelIdeal.main_part5 (F := F) := rfl

/-- Window 6 of the host function. -/
theorem part6_eq : Cert.Kernel.main_part6 (F := F) = Cert.KernelIdeal.main_part6 (F := F) := rfl

/-- Window 7 of the host function. -/
theorem part7_eq : Cert.Kernel.main_part7 (F := F) = Cert.KernelIdeal.main_part7 (F := F) := rfl

/-- Window 8 of the host function. -/
theorem part8_eq : Cert.Kernel.main_part8 (F := F) = Cert.KernelIdeal.main_part8 (F := F) := rfl

/-- Window 9 of the host function. -/
theorem part9_eq : Cert.Kernel.main_part9 (F := F) = Cert.KernelIdeal.main_part9 (F := F) := rfl

/-- The two host functions are the same. -/
theorem main_eq : Cert.Kernel.main (F := F) = Cert.KernelIdeal.main (F := F) := by
  funext d
  unfold Cert.Kernel.main Cert.KernelIdeal.main
  rw [part0_eq, part1_eq, part2_eq, part3_eq, part4_eq, part5_eq, part6_eq, part7_eq, part8_eq, part9_eq]

end Cert.Same

end
-- ==== Proof.Pool.lean ====
/- The four pooling stages and the two normalized convolutions of the kernel program: each leaves what the
   reference's terms say, of the arrays it starts from. The two programs do these stages by the same operations. -/
module

public import proofs.«01_k».proof.Proof.Lines
public import proofs.«01_k».proof.Proof.Gen.ReferenceIdeal.Run
public import Idealize.ShloMosaic.Lib.StableHlo.RunRead

@[expose] public section

set_option maxRecDepth 16384

noncomputable section

namespace Cert.KernelIdeal.Stage

open Cert.KernelIdeal Cert.KernelIdeal.Gen Idealize.ShloMosaic Idealize.ShloMosaic.TcCoe Idealize.ShloMosaic.StableHlo
open Cert.ReferenceIdeal.Value

variable {F : FTy → Type} [FloatOps F]

/-- The kernel program's contents of a device's buffers, and the reference's. -/
local notation "KV" => Valuation τ sig (Elt F)
local notation "RV" => Valuation Cert.ReferenceIdeal.τ Cert.ReferenceIdeal.sig (Elt F)

set_option maxHeartbeats 4000000 in
/-- The first pooling leaves the reference's kept rows, edge weights, sources and destinations. -/
theorem pool1_eq (V : KV) (R : RV)
    (h0 : (V (Proc.devRef .tc main_v44) : FVec F S50000x64 .f32) = res_main_v34 R)
    (h1 : (V (Proc.devRef .tc main_v4) : FVec F S800000 .f32) = res_main_v4 R)
    (h2 : (V (Proc.devRef .tc main_v1) : IVec S800000 32) = res_main_v1 R)
    (h3 : (V (Proc.devRef .tc main_v3) : IVec S800000 32) = res_main_v3 R)
    (h4 : (V (Proc.devRef .tc main_arg13) : FVec F S64 .f32) = R (Proc.devRef .tc Cert.ReferenceIdeal.main_arg13)) :
    (after pool1 V (Proc.devRef .tc main_v59) : FVec F S25000x64 .f32) = res_main_v49 R
      ∧ (after pool1 V (Proc.devRef .tc main_v90) : FVec F S800000 .f32) = res_main_v80 R
      ∧ (after pool1 V (Proc.devRef .tc main_v93) : IVec S800000 32) = res_main_v83 R
      ∧ (after pool1 V (Proc.devRef .tc main_v96) : IVec S800000 32) = res_main_v86 R := by
  refine ⟨?_, ?_, ?_, ?_⟩ <;> after_reads_simp <;>
    simp -implicitDefEqProofs only [StableHlo.TRef.toBuf, StableHlo.TRef.ofBuf, cast_cast, cast_eq, h0, h1, h2, h3, h4] <;> rfl

set_option maxHeartbeats 4000000 in
/-- The second pooling likewise. -/
theorem pool2_eq (V : KV) (R : RV)
    (h0 : (V (Proc.devRef .tc main_v136) : FVec F S25000x64 .f32) = res_main_v123 R)
    (h1 : (V (Proc.devRef .tc main_v90) : FVec F S800000 .f32) = res_main_v80 R)
    (h2 : (V (Proc.devRef .tc main_v93) : IVec S800000 32) = res_main_v83 R)
    (h3 : (V (Proc.devRef .tc main_v96) : IVec S800000 32) = res_main_v86 R)
    (h4 : (V (Proc.devRef .tc main_arg14) : FVec F S64 .f32) = R (Proc.devRef .tc Cert.ReferenceIdeal.main_arg14)) :
    (after pool2 V (Proc.devRef .tc main_v151) : FVec F S12500x64 .f32) = res_main_v138 R
      ∧ (after pool2 V (Proc.devRef .tc main_v182) : FVec F S800000 .f32) = res_main_v169 R
      ∧ (after pool2 V (Proc.devRef .tc main_v185) : IVec S800000 32) = res_main_v172 R
      ∧ (after pool2 V (Proc.devRef .tc main_v188) : IVec S800000 32) = res_main_v175 R := by
  refine ⟨?_, ?_, ?_, ?_⟩ <;> after_reads_simp <;>
    simp -implicitDefEqProofs only [StableHlo.TRef.toBuf, StableHlo.TRef.ofBuf, cast_cast, cast_eq, h0, h1, h2, h3, h4] <;> rfl

set_option maxHeartbeats 4000000 in
/-- The third convolution leaves the reference's rows. -/
theorem gcn3_eq (V : KV) (R : RV)
    (h0 : (V (Proc.devRef .tc main_v151) : FVec F S12500x64 .f32) = res_main_v138 R)
    (h1 : (V (Proc.devRef .tc main_v182) : FVec F S800000 .f32) = res_main_v169 R)
    (h2 : (V (Proc.devRef .tc main_v185) : IVec S800000 32) = res_main_v172 R)
    (h3 : (V (Proc.devRef .tc main_v188) : IVec S800000 32) = res_main_v175 R)
    (h4 : (V (Proc.devRef .tc main_arg9) : FVec F S64x64 .f32) = R (Proc.devRef .tc Cert.ReferenceIdeal.main_arg9))
    (h5 : (V (Proc.devRef .tc main_arg10) : FVec F S64 .f32) = R (Proc.devRef .tc Cert.ReferenceIdeal.main_arg10)) :
    (after gcn3 V (Proc.devRef .tc main_v246) : FVec F S12500x64 .f32) = res_main_v230 R := by
  after_reads_simp
  simp only [h0, h1, h2, h3, h4, h5]
  rfl

set_option maxHeartbeats 4000000 in
/-- The third pooling likewise. -/
theorem pool3_eq (V : KV) (R : RV)
    (h0 : (V (Proc.devRef .tc main_v246) : FVec F S12500x64 .f32) = res_main_v230 R)
    (h1 : (V (Proc.devRef .tc main_v182) : FVec F S800000 .f32) = res_main_v169 R)
    (h2 : (V (Proc.devRef .tc main_v185) : IVec S800000 32) = res_main_v172 R)
    (h3 : (V (Proc.devRef .tc main_v188) : IVec S800000 32) = res_main_v175 R)
    (h4 : (V (Proc.devRef .tc main_arg15) : FVec F S64 .f32) = R (Proc.devRef .tc Cert.ReferenceIdeal.main_arg15)) :
    (after pool3 V (Proc.devRef .tc main_v261) : FVec F S6250x64 .f32) = res_main_v245 R
      ∧ (after pool3 V (Proc.devRef .tc main_v292) : FVec F S800000 .f32) = res_main_v276 R
      ∧ (after pool3 V (Proc.devRef .tc main_v295) : IVec S800000 32) = res_main_v279 R
      ∧ (after pool3 V (Proc.devRef .tc main_v298) : IVec S800000 32) = res_main_v282 R := by
  refine ⟨?_, ?_, ?_, ?_⟩ <;> after_reads_simp <;>
    simp -implicitDefEqProofs only [StableHlo.TRef.toBuf, StableHlo.TRef.ofBuf, cast_cast, cast_eq, h0, h1, h2, h3, h4] <;> rfl

set_option maxHeartbeats 4000000 in
/-- The fourth convolution leaves the reference's rows. -/
theorem gcn4_eq (V : KV) (R : RV)
    (h0 : (V (Proc.devRef .tc main_v261) : FVec F S6250x64 .f32) = res_main_v245 R)
    (h1 : (V (Proc.devRef .tc main_v292) : FVec F S800000 .f32) = res_main_v276 R)
    (h2 : (V (Proc.devRef .tc main_v295) : IVec S800000 32) = res_main_v279 R)
    (h3 : (V (Proc.devRef .tc main_v298) : IVec S800000 32) = res_main_v282 R)
    (h4 : (V (Proc.devRef .tc main_arg11) : FVec F S64x64 .f32) = R (Proc.devRef .tc Cert.ReferenceIdeal.main_arg11))
    (h5 : (V (Proc.devRef .tc main_arg12) : FVec F S64 .f32) = R (Proc.devRef .tc Cert.ReferenceIdeal.main_arg12)) :
    (after gcn4 V (Proc.devRef .tc main_v356) : FVec F S6250x64 .f32) = res_main_v337 R := by
  after_reads_simp
  simp only [h0, h1, h2, h3, h4, h5]
  rfl

set_option maxHeartbeats 4000000 in
/-- The fourth pooling leaves the reference's kept rows. -/
theorem pool4_eq (V : KV) (R : RV)
    (h0 : (V (Proc.devRef .tc main_v356) : FVec F S6250x64 .f32) = res_main_v337 R)
    (h1 : (V (Proc.devRef .tc main_arg16) : FVec F S64 .f32) = R (Proc.devRef .tc Cert.ReferenceIdeal.main_arg16)) :
    (after pool4 V (Proc.devRef .tc main_v371) : FVec F S3125x64 .f32) = res_main_v352 R := by
  after_reads_simp
  simp only [h0, h1]
  rfl

end Cert.KernelIdeal.Stage

end
-- ==== Proof.Segments.lean ====
/- Sums over the edges of a graph, on extended reals. An accumulating scatter of the edges' rows at their destinations
   is, at a node, the sum over the edges that arrive there. The kernel gathers those rows from a table that carries a column of
   ones after the features and a row of zeros after the nodes, and sends an edge of weight zero to that row; the reference
   gathers from the features and multiplies by the weight. Both give the same sums and the same counts. -/
module

public import Idealize.ShloMosaic.PureOps.Ideal
public import Idealize.ShloMosaic.Lib.Routing.OpsOne

@[expose] public section

set_option maxRecDepth 16384

noncomputable section

namespace Cert.Segments

open Idealize.ShloMosaic Idealize.ShloMosaic.ValueIdx Idealize.ShloMosaic.Routing
open scoped BigOperators

variable {n d W E : Nat}

/-! ## Where updates land -/

/-- The word edge `j` starts at, for scatters of rows or scalars at one index word each: word `(j 0, 0)`, read signed. -/
theorem start_edge {s u : Shape} (D : ScatterDims s (shape2 E 1) u) (a : Fin s.rank) (hsd : D.scatterDimsToOperandDims = [a])
    (hivd : D.indexVectorDim = 1) (idx : IVec (shape2 E 1) 32) (j : u.Idx) (e : Fin E)
    (he : ∀ b ∈ D.uScatter, (j b).val = e.val) :
    D.start j idx a = (idx (ix2 e (0 : Fin 1))).toInt := by
  have hm : a ∈ D.scatterDimsToOperandDims := by rw [hsd]; exact List.mem_singleton.2 rfl
  unfold ScatterDims.start
  rw [dif_pos hm]
  congr 2
  funext b
  refine Fin.ext ?_
  match b with
  | ⟨0, _⟩ =>
    unfold ScatterDims.siIdx
    rw [dif_neg (by rw [hivd]; exact Nat.zero_ne_one)]
    unfold ScatterDims.siCoord
    exact he _ (List.getElem_mem _)
  | ⟨1, _⟩ =>
    unfold ScatterDims.siIdx
    rw [dif_pos (by rw [hivd])]
    show List.idxOf a D.scatterDimsToOperandDims = 0
    rw [hsd]; simp

/-- Edge `e`'s scalar lands at node `x` exactly when its index word, read signed, is `x`. -/
theorem lands_scalar (D : ScatterDims (shape1 n) (shape2 E 1) (shape1 E)) (hiw : D.insertedWindowDims = [0])
    (hsd : D.scatterDimsToOperandDims = [0]) (hivd : D.indexVectorDim = 1) (idx : IVec (shape2 E 1) 32) (j : (shape1 E).Idx) (x : Fin n) :
    D.resultIdx? j idx = some (ix1 x) ↔ (idx (ix2 (j 0) (0 : Fin 1))).toInt = (x.val : Int) := by
  have hw : D.window j 0 = 0 := by
    unfold ScatterDims.window
    rw [dif_neg fun h => (of_decide_eq_true (List.mem_filter.1 h).2) (by rw [hiw]; exact List.mem_singleton.2 rfl)]
  have hs : D.start j idx 0 = (idx (ix2 (j 0) (0 : Fin 1))).toInt :=
    start_edge D 0 hsd hivd idx j (j 0) fun b _ => by
      obtain rfl : b = (0 : Fin 1) := Subsingleton.elim _ _
      rfl
  rw [resultIdx?_eq_some]
  constructor
  · intro h
    have := h 0
    rw [hs, hw] at this
    change (idx (ix2 (j 0) (0 : Fin 1))).toInt + ((0 : Nat) : Int) = (x.val : Int) at this
    omega
  · intro h a
    obtain rfl : a = (0 : Fin 1) := Subsingleton.elim _ _
    rw [hs, hw]
    show (idx (ix2 (j 0) (0 : Fin 1))).toInt + ((0 : Nat) : Int) = (x.val : Int)
    omega

/-- Element `c` of edge `e`'s row lands at `(x, y)` exactly when its index word, read signed, is `x`, and `c` is `y`. -/
theorem lands_row (D : ScatterDims (shape2 n W) (shape2 E 1) (shape2 E W)) (huw : D.updateWindowDims = [1])
    (hiw : D.insertedWindowDims = [0]) (hsd : D.scatterDimsToOperandDims = [0]) (hivd : D.indexVectorDim = 1)
    (idx : IVec (shape2 E 1) 32) (j : (shape2 E W).Idx) (x : Fin n) (y : Fin W) :
    D.resultIdx? j idx = some (ix2 x y) ↔ (idx (ix2 (j 0) (0 : Fin 1))).toInt = (x.val : Int) ∧ (j 1).val = y.val := by
  have hk : D.sKept = [1] := by
    show (shape2 n W).kept D.insertedWindowDims = _
    rw [hiw]; rfl
  have hw0 : D.window j 0 = 0 := by
    unfold ScatterDims.window
    rw [dif_neg (by rw [hk]; simp)]
  have hw1 : D.window j 1 = (j 1).val := by
    have hall : ∀ (l : List (Fin 2)) (p : Nat) (h : p < l.length), l = [1] → l[p]'h = 1 := by
      intro l p h hl
      subst hl
      simp
    have hj : ∀ b : Fin 2, b = 1 → (j b).val = (j 1).val := fun b hb => by subst hb; rfl
    unfold ScatterDims.window
    rw [dif_pos (by rw [hk]; simp)]
    exact hj _ (hall _ _ _ huw)
  have hs0 : D.start j idx 0 = (idx (ix2 (j 0) (0 : Fin 1))).toInt :=
    start_edge D 0 hsd hivd idx j (j 0) fun b hb => by
      have h1 : b ∉ D.updateWindowDims := of_decide_eq_true (List.mem_filter.1 hb).2
      rw [huw] at h1
      match b, h1 with
      | ⟨0, _⟩, _ => rfl
      | ⟨1, _⟩, h1 => exact (h1 (List.mem_singleton.2 rfl)).elim
  have hs1 : D.start j idx 1 = 0 := by
    unfold ScatterDims.start
    rw [dif_neg (by rw [hsd]; simp)]
  rw [resultIdx?_ix2, hs0, hs1, hw0, hw1]
  omega

/-- Element `(a, b)` of a block set at a pair of index words lands where the words, read signed, plus `a` and `b` say. -/
theorem lands_block {R C : Nat} (D : ScatterDims (shape2 R C) (shape1 2) (shape2 n d)) (huw : D.updateWindowDims = [0, 1])
    (hiw : D.insertedWindowDims = []) (hsd : D.scatterDimsToOperandDims = [0, 1]) (hivd : D.indexVectorDim = 0)
    (idx : IVec (shape1 2) 32) (j : (shape2 n d).Idx) (r : Fin R) (c : Fin C) :
    D.resultIdx? j idx = some (ix2 r c)
      ↔ (idx (ix1 (0 : Fin 2))).toInt + ((j 0).val : Int) = r.val ∧ (idx (ix1 (1 : Fin 2))).toInt + ((j 1).val : Int) = c.val := by
  have hk : D.sKept = [0, 1] := by
    show (shape2 R C).kept D.insertedWindowDims = _
    rw [hiw]; rfl
  have e : ∀ (l : List (Fin 2)) (p : Nat) (h : p < l.length) (q : Fin 2), l = [0, 1] → p = q.val → l[p]'h = q := by
    intro l p h q hl hp
    subst hl
    subst hp
    fin_cases q <;> rfl
  have hj : ∀ b q : Fin 2, b = q → (j b).val = (j q).val := fun b q hb => by subst hb; rfl
  have hw : ∀ q : Fin 2, D.window j q = (j q).val := fun q => by
    unfold ScatterDims.window
    rw [dif_pos (by rw [hk]; fin_cases q <;> simp)]
    exact hj _ _ (e _ _ _ _ huw (by rw [hk]; fin_cases q <;> rfl))
  rw [resultIdx?_ix2, start_pair D hsd hivd, start_pair D hsd hivd, hw, hw]

/-! ## The accumulating scatters -/

/-- An accumulating scatter of rows, at node `i` and column `c`: the operand's element plus the sum over the edges that arrive. -/
theorem scatterAdd_rows (D : ScatterDims (shape2 n W) (shape2 E 1) (shape2 E W)) (huw : D.updateWindowDims = [1])
    (hiw : D.insertedWindowDims = [0]) (hsd : D.scatterDimsToOperandDims = [0]) (hivd : D.indexVectorDim = 1)
    (x : FVec Ideal (shape2 n W) .f32) (idx : IVec (shape2 E 1) 32) (upd : FVec Ideal (shape2 E W) .f32) (i : Fin n) (c : Fin W) :
    (Host.scatterAdd D x idx upd (ix2 i c) : EReal)
      = x (ix2 i c) + ∑ e ∈ Finset.univ.filter (fun e : Fin E => (idx (ix2 e (0 : Fin 1))).toInt = (i.val : Int)), (upd (ix2 e c) : EReal) := by
  show (x (ix2 i c) : EReal) + ∑ j ∈ Finset.univ.filter (fun j => D.resultIdx? j idx = some (ix2 i c)), (upd j : EReal) = _
  congr 1
  refine Finset.sum_bij' (fun j _ => (j 0 : Fin E)) (fun e _ => ix2 e c) ?_ ?_ ?_ ?_ ?_
  · intro j hj
    exact Finset.mem_filter.2 ⟨Finset.mem_univ _, ((lands_row D huw hiw hsd hivd idx j i c).1 (Finset.mem_filter.1 hj).2).1⟩
  · intro e he
    exact Finset.mem_filter.2 ⟨Finset.mem_univ _, (lands_row D huw hiw hsd hivd idx (ix2 e c) i c).2 ⟨(Finset.mem_filter.1 he).2, rfl⟩⟩
  · intro j hj
    have h1 := ((lands_row D huw hiw hsd hivd idx j i c).1 (Finset.mem_filter.1 hj).2).2
    have : (j 1 : Fin W) = c := Fin.ext h1
    rw [← this]
    exact (eq_ix2 j).symm
  · intro e _; rfl
  · intro j hj
    have h1 := ((lands_row D huw hiw hsd hivd idx j i c).1 (Finset.mem_filter.1 hj).2).2
    have : (j 1 : Fin W) = c := Fin.ext h1
    rw [← this]
    exact congrArg upd (eq_ix2 j)

/-- An accumulating scatter of scalars, at node `i`: the operand's element plus the sum over the edges that arrive. -/
theorem scatterAdd_scalars (D : ScatterDims (shape1 n) (shape2 E 1) (shape1 E)) (hiw : D.insertedWindowDims = [0])
    (hsd : D.scatterDimsToOperandDims = [0]) (hivd : D.indexVectorDim = 1)
    (x : FVec Ideal (shape1 n) .f32) (idx : IVec (shape2 E 1) 32) (upd : FVec Ideal (shape1 E) .f32) (i : Fin n) :
    (Host.scatterAdd D x idx upd (ix1 i) : EReal)
      = x (ix1 i) + ∑ e ∈ Finset.univ.filter (fun e : Fin E => (idx (ix2 e (0 : Fin 1))).toInt = (i.val : Int)), (upd (ix1 e) : EReal) := by
  show (x (ix1 i) : EReal) + ∑ j ∈ Finset.univ.filter (fun j => D.resultIdx? j idx = some (ix1 i)), (upd j : EReal) = _
  congr 1
  refine Finset.sum_bij' (fun j _ => (j 0 : Fin E)) (fun e _ => ix1 e) ?_ ?_ ?_ ?_ ?_
  · intro j hj
    exact Finset.mem_filter.2 ⟨Finset.mem_univ _, (lands_scalar D hiw hsd hivd idx j i).1 (Finset.mem_filter.1 hj).2⟩
  · intro e he
    exact Finset.mem_filter.2 ⟨Finset.mem_univ _, (lands_scalar D hiw hsd hivd idx (ix1 e) i).2 (Finset.mem_filter.1 he).2⟩
  · intro j _
    exact (eq_ix1 j).symm
  · intro e _; rfl
  · intro j _
    exact congrArg upd (eq_ix1 j)

/-! ## The kernel's table -/

section Table

variable {N : Nat} (D1 : ScatterDims (shape2 N W) (shape1 2) (shape2 n d)) (D2 : ScatterDims (shape2 N W) (shape1 2) (shape1 n))
  (Z : FVec Ideal (shape2 N W) .f32) (x : FVec Ideal (shape2 n d) .f32) (o : FVec Ideal (shape1 n) .f32) (i1 i2 : IVec (shape1 2) 32)

/-- The table: the features set into its first rows and columns, then a column beside them. -/
abbrev table : FVec Ideal (shape2 N W) .f32 :=
  Host.scatter D2 (fun _ b => b) (Host.scatter D1 (fun _ b => b) Z i1 x) i2 o

/-- What the table is read by: its two scatters' axes, and the corners they start at. -/
structure TableOk : Prop where
  uw1 : D1.updateWindowDims = [0, 1]
  iw1 : D1.insertedWindowDims = []
  sd1 : D1.scatterDimsToOperandDims = [0, 1]
  iv1 : D1.indexVectorDim = 0
  iw2 : D2.insertedWindowDims = [1]
  sd2 : D2.scatterDimsToOperandDims = [0, 1]
  iv2 : D2.indexVectorDim = 0
  at1 : (i1 (ix1 (0 : Fin 2))).toInt = 0 ∧ (i1 (ix1 (1 : Fin 2))).toInt = 0
  at2 : (i2 (ix1 (0 : Fin 2))).toInt = 0 ∧ (i2 (ix1 (1 : Fin 2))).toInt = (d : Int)
  pos : 0 < n

variable {D1 D2 i1 i2}

/-- A node's features in the table. -/
theorem table_feature (ok : TableOk D1 D2 i1 i2) (r : Fin N) (c : Fin W) (hr : r.val < n) (hc : c.val < d) :
    table D1 D2 Z x o i1 i2 (ix2 r c) = x (ix2 ⟨r.val, hr⟩ ⟨c.val, hc⟩) := by
  unfold table
  rw [scatter_column_signed D2 ok.pos ok.iw2 ok.sd2 ok.iv2, if_neg]
  · refine scatter_set_hit D1 _ _ _ _ _ (fun k hk => ?_) (ix2 ⟨r.val, hr⟩ ⟨c.val, hc⟩) ?_
    · have h := (lands_block D1 ok.uw1 ok.iw1 ok.sd1 ok.iv1 i1 k r c).1 hk
      rw [ok.at1.1, ok.at1.2] at h
      have h0 : (k 0 : Fin n) = ⟨r.val, hr⟩ := Fin.ext (by show (k 0).val = r.val; omega)
      have h1 : (k 1 : Fin d) = ⟨c.val, hc⟩ := Fin.ext (by show (k 1).val = c.val; omega)
      exact congrArg x ((eq_ix2 k).trans (congrArg₂ ix2 h0 h1))
    · refine (lands_block D1 ok.uw1 ok.iw1 ok.sd1 ok.iv1 i1 _ r c).2 ?_
      rw [ok.at1.1, ok.at1.2]
      exact ⟨Int.zero_add _, Int.zero_add _⟩
  · rw [ok.at2.2]
    rintro ⟨h, _⟩
    have h' : (d : Int) = (c.val : Int) := h
    omega

/-- A node's entry of the column beside the features. -/
theorem table_column (ok : TableOk D1 D2 i1 i2) (r : Fin N) (c : Fin W) (hr : r.val < n) (hc : c.val = d) :
    table D1 D2 Z x o i1 i2 (ix2 r c) = o (ix1 ⟨r.val, hr⟩) := by
  unfold table
  rw [scatter_column_signed D2 ok.pos ok.iw2 ok.sd2 ok.iv2, if_pos]
  · refine congrArg (fun q => o (ix1 q)) (Fin.ext ?_)
    show ((r.val : Int) - (i2 (ix1 (0 : Fin 2))).toInt).toNat % n = r.val
    rw [ok.at2.1, Int.sub_zero, Int.toNat_natCast, Nat.mod_eq_of_lt hr]
  · rw [ok.at2.1, ok.at2.2]
    refine ⟨?_, ?_, ?_⟩
    · show (d : Int) = (c.val : Int)
      omega
    · show (0 : Int) ≤ (r.val : Int)
      omega
    · show (r.val : Int) < 0 + (n : Int)
      omega

/-- The row after the nodes keeps what was there. -/
theorem table_last (ok : TableOk D1 D2 i1 i2) (r : Fin N) (c : Fin W) (hr : r.val = n) :
    table D1 D2 Z x o i1 i2 (ix2 r c) = Z (ix2 r c) := by
  unfold table
  rw [scatter_column_signed D2 ok.pos ok.iw2 ok.sd2 ok.iv2, if_neg]
  · refine scatter_set_miss D1 _ _ _ _ fun k hk => ?_
    have h := (lands_block D1 ok.uw1 ok.iw1 ok.sd1 ok.iv1 i1 k r c).1 hk
    rw [ok.at1.1] at h
    have := idx2_lt0 k
    omega
  · rw [ok.at2.1]
    rintro ⟨_, _, h⟩
    have h' : (r.val : Int) < 0 + (n : Int) := h
    omega

/-! ## The two ways to sum -/

section Sums

variable (ok : TableOk D1 D2 i1 i2)
  (DG : GatherDims (shape2 N W) (shape2 E 1) (shape2 E W)) (DR : GatherDims (shape2 n d) (shape2 E 1) (shape2 E d))
  (SK : ScatterDims (shape2 N W) (shape2 E 1) (shape2 E W)) (SR : ScatterDims (shape2 n d) (shape2 E 1) (shape2 E d))
  (SV : ScatterDims (shape1 n) (shape2 E 1) (shape1 E))

/-- What the gathers and the accumulating scatters are read by: their axes. -/
structure SumsOk : Prop where
  g : DG.offsetDims = [1] ∧ DG.collapsedSliceDims = [0] ∧ DG.operandBatchingDims = [] ∧ DG.startIndexMap = [0] ∧ DG.indexVectorDim = 1
  r : DR.offsetDims = [1] ∧ DR.collapsedSliceDims = [0] ∧ DR.operandBatchingDims = [] ∧ DR.startIndexMap = [0] ∧ DR.indexVectorDim = 1
  k : SK.updateWindowDims = [1] ∧ SK.insertedWindowDims = [0] ∧ SK.scatterDimsToOperandDims = [0] ∧ SK.indexVectorDim = 1
  f : SR.updateWindowDims = [1] ∧ SR.insertedWindowDims = [0] ∧ SR.scatterDimsToOperandDims = [0] ∧ SR.indexVectorDim = 1
  v : SV.insertedWindowDims = [0] ∧ SV.scatterDimsToOperandDims = [0] ∧ SV.indexVectorDim = 1
  rows : N = n + 1
  small : N < 2 ^ 31

variable {DG DR SK SR SV}

variable (so : SumsOk DG DR SK SR SV) (m : FVec Ideal (shape1 E) .f32) (s : Fin E → Fin n)
  (gidx ridx didx : IVec (shape2 E 1) 32)
  (hm : ∀ e, (m (ix1 e) : EReal) = 0 ∨ (m (ix1 e) : EReal) = 1)
  (hg1 : ∀ e, (m (ix1 e) : EReal) = 1 → gidx (ix2 e (0 : Fin 1)) = BitVec.ofNat 32 (s e).val)
  (hg0 : ∀ e, (m (ix1 e) : EReal) = 0 → gidx (ix2 e (0 : Fin 1)) = BitVec.ofNat 32 n)
  (hr : ∀ e, ridx (ix2 e (0 : Fin 1)) = BitVec.ofNat 32 (s e).val)
  (hZ : ∀ j, (Z j : EReal) = 0)

include ok so hm hg1 hg0 hr hZ in
/-- The sums of the features agree: an edge of weight one adds its source's row, an edge of weight zero adds zeros. -/
theorem sums_features (Y : FVec Ideal (shape2 E d) .f32) (hY : ∀ e c, (Y (ix2 e c) : EReal) = m (ix1 e)) (ZK : FVec Ideal (shape2 N W) .f32)
    (ZR : FVec Ideal (shape2 n d) .f32) (hZK : ∀ j, (ZK j : EReal) = 0) (hZR : ∀ j, (ZR j : EReal) = 0)
    (i : Fin n) (c : Fin d) (i' : Fin N) (c' : Fin W) (hi : i'.val = i.val) (hc : c'.val = c.val) :
    (Host.scatterAdd SK ZK didx (Host.gather DG (table D1 D2 Z x o i1 i2) gidx) (ix2 i' c') : EReal)
      = Host.scatterAdd SR ZR didx (mulf (Host.gather DR x ridx) Y) (ix2 i c) := by
  rw [scatterAdd_rows SK so.k.1 so.k.2.1 so.k.2.2.1 so.k.2.2.2, scatterAdd_rows SR so.f.1 so.f.2.1 so.f.2.2.1 so.f.2.2.2,
    hZK, hZR, hi]
  congr 1
  refine Finset.sum_congr rfl fun e _ => ?_
  have hrow := so.rows
  have hx : Host.gather DR x ridx (ix2 e c) = x (ix2 (s e) c) :=
    gather_row DR so.r.1 so.r.2.1 so.r.2.2.1 so.r.2.2.2.1 so.r.2.2.2.2 x ridx e c (s e) (hr e) (by have := so.small; omega)
  show _ = (Host.gather DR x ridx (ix2 e c) : EReal) * Y (ix2 e c)
  rw [hx, hY]
  have gr := fun (b : Fin N) (hb) => gather_row DG so.g.1 so.g.2.1 so.g.2.2.1 so.g.2.2.2.1 so.g.2.2.2.2 (table D1 D2 Z x o i1 i2) gidx e c' b hb so.small
  rcases hm e with h | h
  · rw [gr ⟨n, by omega⟩ (hg0 e h), table_last Z x o ok _ _ rfl, hZ, h, mul_zero]
  · have hlt := (s e).isLt
    rw [gr ⟨(s e).val, by omega⟩ (hg1 e h), table_feature Z x o ok _ _ hlt (by rw [hc]; exact c.isLt), h, mul_one]
    exact congrArg (fun q => x (ix2 (s e) q)) (Fin.ext hc)

include ok so hm hg1 hg0 hZ in
/-- The counts agree: an edge of weight one counts one, an edge of weight zero nothing. -/
theorem sums_counts (ho : ∀ j, (o j : EReal) = 1) (ZK : FVec Ideal (shape2 N W) .f32) (ZV : FVec Ideal (shape1 n) .f32)
    (hZK : ∀ j, (ZK j : EReal) = 0) (hZV : ∀ j, (ZV j : EReal) = 0)
    (i : Fin n) (i' : Fin N) (c' : Fin W) (hi : i'.val = i.val) (hc : c'.val = d) :
    (Host.scatterAdd SK ZK didx (Host.gather DG (table D1 D2 Z x o i1 i2) gidx) (ix2 i' c') : EReal)
      = Host.scatterAdd SV ZV didx m (ix1 i) := by
  rw [scatterAdd_rows SK so.k.1 so.k.2.1 so.k.2.2.1 so.k.2.2.2, scatterAdd_scalars SV so.v.1 so.v.2.1 so.v.2.2,
    hZK, hZV, hi]
  congr 1
  refine Finset.sum_congr rfl fun e _ => ?_
  have hrow := so.rows
  have gr := fun (b : Fin N) (hb) => gather_row DG so.g.1 so.g.2.1 so.g.2.2.1 so.g.2.2.2.1 so.g.2.2.2.2 (table D1 D2 Z x o i1 i2) gidx e c' b hb so.small
  rcases hm e with h | h
  · rw [gr ⟨n, by omega⟩ (hg0 e h), table_last Z x o ok _ _ rfl, hZ, h]
  · have hlt := (s e).isLt
    rw [gr ⟨(s e).val, by omega⟩ (hg1 e h), table_column Z x o ok _ _ hlt hc, h, ho]

end Sums

end Table

/-! ## Slices and wrapped indices -/

/-- The first `n` rows and `d` columns of an array that agrees there with another are the other. -/
theorem slice_block {α : Type} {N : Nat} (A : (shape2 N W).Idx → α) (B : (shape2 n d).Idx → α) (h : (shape2 N W).Slices ![0, 0] (shape2 n d))
    (hAB : ∀ (i : Fin n) (c : Fin d) (i' : Fin N) (c' : Fin W), i'.val = i.val → c'.val = c.val → A (ix2 i' c') = B (ix2 i c)) :
    extractStridedSlice (shape2 n d) ![0, 0] A h = B := by
  have h0 : n ≤ N := by have := h.2 0; change 0 + n ≤ N at this; omega
  have h1 : d ≤ W := by have := h.2 1; change 0 + d ≤ W at this; omega
  funext j
  have e := hAB (j 0) (j 1) ⟨(j 0).val, lt_of_lt_of_le (idx2_lt0 j) h0⟩ ⟨(j 1).val, lt_of_lt_of_le (idx2_lt1 j) h1⟩ rfl rfl
  refine Eq.trans ?_ (e.trans (congrArg B (eq_ix2 j).symm))
  refine congrArg A (funext fun a => Fin.ext ?_)
  match a with
  | ⟨0, _⟩ => exact Nat.zero_add _
  | ⟨1, _⟩ => exact Nat.zero_add _

/-- The first `n` rows of column `o` of an array that agrees there with a vector are the vector. -/
theorem slice_column {α : Type} {N o : Nat} (A : (shape2 N W).Idx → α) (B : (shape1 n).Idx → α) (h : (shape2 N W).Slices ![0, o] (shape2 n 1))
    (h' : (shape2 n 1).ShapeCasts (shape1 n))
    (hAB : ∀ (i : Fin n) (i' : Fin N) (c' : Fin W), i'.val = i.val → c'.val = o → A (ix2 i' c') = B (ix1 i)) :
    shapeCast (shape1 n) (extractStridedSlice (shape2 n 1) ![0, o] A h) h' = B := by
  have h0 : n ≤ N := by have := h.2 0; change 0 + n ≤ N at this; omega
  have h1 : o + 1 ≤ W := by have := h.2 1; change o + 1 ≤ W at this; omega
  funext j
  have hj : (j 0).val < n := (j 0).isLt
  have e := hAB (j 0) ⟨(j 0).val, lt_of_lt_of_le hj h0⟩ ⟨o, by omega⟩ rfl rfl
  refine Eq.trans ?_ (e.trans (congrArg B (eq_ix1 j).symm))
  refine (congrArg _ (eq_ix1 j)).trans ((cast21 _ h' (j 0) (0 : Fin 1) (j 0) (by simp)).trans ?_)
  refine congrArg A (funext fun a => Fin.ext ?_)
  match a with
  | ⟨0, _⟩ => exact Nat.zero_add _
  | ⟨1, _⟩ => exact Nat.add_zero _

/-- An index that is not negative is left as it is where a negative one would be wrapped. -/
theorem wrap_apply {s : Shape} (g a z : IVec s 32) (i : s.Idx) (k : Nat) (hz : z i = 0#32) (hg : g i = BitVec.ofNat 32 k) (hk : k < 2 ^ 31) :
    select (cmpi .slt g z) a g i = BitVec.ofNat 32 k := by
  show Scalar.select (IntOp.cmpi .slt (g i) (z i)) (a i) (g i) = _
  rw [hz, wrap_of_lt, hg]
  rw [hg, BitVec.toNat_ofNat]
  omega

/-- The index of an edge of weight one is its source. -/
theorem pick_one {s : Shape} (m z : FVec Ideal s .f32) (a b : IVec s 32) (i : s.Idx) (hz : (z i : EReal) = 0) (hm : (m i : EReal) = 1) :
    select (cmpf .ogt m z) a b i = a i := by
  show Scalar.select (Ideal.cmp .ogt (m i) (z i)) (a i) (b i) = _
  rw [hz, hm]
  simp [Ideal.cmp, Scalar.select]

/-- The index of an edge of weight zero is the row of zeros. -/
theorem pick_zero {s : Shape} (m z : FVec Ideal s .f32) (a b : IVec s 32) (i : s.Idx) (hz : (z i : EReal) = 0) (hm : (m i : EReal) = 0) :
    select (cmpf .ogt m z) a b i = b i := by
  show Scalar.select (Ideal.cmp .ogt (m i) (z i)) (a i) (b i) = _
  rw [hz, hm]
  simp [Ideal.cmp, Scalar.select]

/-- The index word by which edge `e` is gathered, where it is not negative. -/
theorem edge_source (h : (shape1 E).BroadcastsInDim (shape2 E 1) (![0] : Fin 1 → Fin (shape2 E 1).rank)) (g w z : IVec (shape1 E) 32)
    (hz : ∀ e, z (ix1 e) = 0#32) (e : Fin E) (k : Nat) (hg : g (ix1 e) = BitVec.ofNat 32 k) (hk : k < 2 ^ 31) :
    broadcastInDim (shape2 E 1) ![0] h (select (cmpi .slt g z) w g) (ix2 e (0 : Fin 1)) = BitVec.ofNat 32 k := by
  rw [bcCol, wrap_apply g w z (ix1 e) k (hz e) hg hk]

/-- The index word of an edge of weight one is its source's. -/
theorem edge_one (h : (shape1 E).BroadcastsInDim (shape2 E 1) (![0] : Fin 1 → Fin (shape2 E 1).rank)) (m z : FVec Ideal (shape1 E) .f32)
    (a b w z' : IVec (shape1 E) 32) (hz : ∀ j, (z j : EReal) = 0) (hz' : ∀ e, z' (ix1 e) = 0#32) (e : Fin E) (k : Nat)
    (hm : (m (ix1 e) : EReal) = 1) (ha : a (ix1 e) = BitVec.ofNat 32 k) (hk : k < 2 ^ 31) :
    broadcastInDim (shape2 E 1) ![0] h (select (cmpi .slt (select (cmpf .ogt m z) a b) z') w (select (cmpf .ogt m z) a b)) (ix2 e (0 : Fin 1))
      = BitVec.ofNat 32 k :=
  edge_source h _ w z' hz' e k ((pick_one m z a b _ (hz _) hm).trans ha) hk

/-- The index word of an edge of weight zero is the row of zeros'. -/
theorem edge_zero (h : (shape1 E).BroadcastsInDim (shape2 E 1) (![0] : Fin 1 → Fin (shape2 E 1).rank)) (m z : FVec Ideal (shape1 E) .f32)
    (a b w z' : IVec (shape1 E) 32) (hz : ∀ j, (z j : EReal) = 0) (hz' : ∀ e, z' (ix1 e) = 0#32) (e : Fin E) (k : Nat)
    (hm : (m (ix1 e) : EReal) = 0) (hb : b (ix1 e) = BitVec.ofNat 32 k) (hk : k < 2 ^ 31) :
    broadcastInDim (shape2 E 1) ![0] h (select (cmpi .slt (select (cmpf .ogt m z) a b) z') w (select (cmpf .ogt m z) a b)) (ix2 e (0 : Fin 1))
      = BitVec.ofNat 32 k :=
  edge_source h _ w z' hz' e k ((pick_zero m z a b _ (hz _) hm).trans hb) hk

end Cert.Segments

end
-- ==== Proof.Sage.lean ====
/- The two first convolutions, which the kernel sums over the edges by its table and the reference by weights: each leaves the
   reference's rows, where the sources are nodes and the weights are zero or one. -/
module

public import proofs.«01_k».proof.Proof.Lines
public import proofs.«01_k».proof.Proof.Segments
public import proofs.«01_k».proof.Proof.Gen.ReferenceIdeal.Run
public import Idealize.ShloMosaic.Lib.StableHlo.RunRead
public import Idealize.ShloMosaic.Lib.IdealHost

@[expose] public section

set_option maxRecDepth 16384

noncomputable section

namespace Cert.KernelIdeal.Stage

open Cert.KernelIdeal Cert.KernelIdeal.Gen Idealize.ShloMosaic Idealize.ShloMosaic.TcCoe Idealize.ShloMosaic.StableHlo
open Idealize.ShloMosaic.ValueIdx Idealize.ShloMosaic.Routing
open Cert.ReferenceIdeal.Value Cert.Segments

/-- The kernel program's contents of a device's buffers, and the reference's. -/
local notation "KV" => Valuation τ sig (Elt Ideal)
local notation "RV" => Valuation Cert.ReferenceIdeal.τ Cert.ReferenceIdeal.sig (Elt Ideal)

/-- What the first convolution computes from the sums `S` over the edges and their counts `D`. -/
def mix1 (x : FVec Ideal S50000x2 .f32) (wl : FVec Ideal S64x2 .f32) (b : FVec Ideal S64 .f32) (wr : FVec Ideal S64x2 .f32)
    (S : FVec Ideal S50000x2 .f32) (D : FVec Ideal S50000 .f32) : FVec Ideal S50000x64 .f32 :=
  maximumf (addf (addf (Host.dotGeneral dot_S50000x2_S2x64_S50000x64_1_0_0_1_n_n none
      (Host.divf S (broadcastInDim S50000x2 ![0, 1] bcast_S50000x1_S50000x2_0_1 (broadcastInDim S50000x1 ![0] bcast_S50000_S50000x1_0
        (maximumf D (broadcastInDim S50000 ![] bcast_S_S50000 (constant S_ .f32 0x3F800000#32))))))
      (transpose S2x64 [1, 0] wl transposes_S64x2_S2x64_1_0))
      (broadcastInDim S50000x64 ![0, 1] bcast_S1x64_S50000x64_0_1 (broadcastInDim S1x64 ![1] bcast_S64_S1x64_1 b)))
      (Host.dotGeneral dot_S50000x2_S2x64_S50000x64_1_0_0_1_n_n none x (transpose S2x64 [1, 0] wr transposes_S64x2_S2x64_1_0)))
    (broadcastInDim S50000x64 ![] bcast_S_S50000x64 (constant S_ .f32 0x00000000#32))

/-- The corners the table's parts are set at. -/
theorem corner1 (V : KV) : upto sage1 V 12 (Proc.devRef .tc main_v6) = broadcastInDim S1 ![] bcast_S_S1 (constantI S_ 32 0#32)
    ∧ upto sage1 V 12 (Proc.devRef .tc main_v7) = broadcastInDim S1 ![] bcast_S_S1 (constantI S_ 32 0#32)
    ∧ upto sage1 V 18 (Proc.devRef .tc main_v10) = broadcastInDim S1 ![] bcast_S_S1 (constantI S_ 32 0#32)
    ∧ upto sage1 V 18 (Proc.devRef .tc main_v11) = broadcastInDim S1 ![] bcast_S_S1 (constantI S_ 32 2#32) := by
  refine ⟨?_, ?_, ?_, ?_⟩ <;> rfl

/-- The reference's edge weights before any pooling. -/
abbrev weight1 (R : RV) : FVec Ideal S800000 .f32 := res_main_v4 R

/-- The reference's edge sources before any pooling. -/
abbrev source1 (R : RV) : IVec S800000 32 := res_main_v1 R

/-- The word of zero. -/
theorem zero {s : Shape} {h : (⟨0, ![]⟩ : Shape).BroadcastsInDim s ![]} (j : s.Idx) :
    @Eq EReal (broadcastInDim s ![] h (constant (F := Ideal) ⟨0, ![]⟩ .f32 0x00000000#32) j) 0 := Ideal.ofBits_zero_f32

/-- The word of one. -/
theorem one {s : Shape} {h : (⟨0, ![]⟩ : Shape).BroadcastsInDim s ![]} (j : s.Idx) :
    @Eq EReal (broadcastInDim s ![] h (constant (F := Ideal) ⟨0, ![]⟩ .f32 0x3F800000#32) j) 1 := Ideal.ofBits_one_f32

/-- A node's number is a word read the same signed. -/
theorem lt {E n : Nat} (s : Fin E → Fin n) (e : Fin E) (hn : n < 2 ^ 31 := by decide) : (s e).val < 2 ^ 31 := (s e).isLt.trans hn

/-- The axes of the first convolution's gathers and sums, in both programs. -/
theorem sums1 : SumsOk (n := 50000) (d := 2) (W := 16) (E := 800000) (N := 50001) gather_S50001x16_S800000x1_S800000x16_1_0_n_n_0_1_116
    Cert.ReferenceIdeal.gather_S50000x2_S800000x1_S800000x2_1_0_n_n_0_1_12 scatter_S50001x16_S800000x1_S800000x16_1_0_0_1
    Cert.ReferenceIdeal.scatter_S50000x2_S800000x1_S800000x2_1_0_0_1 Cert.ReferenceIdeal.scatter_S50000_S800000x1_S800000_n_0_0_1 :=
  ⟨⟨rfl, rfl, rfl, rfl, rfl⟩, ⟨rfl, rfl, rfl, rfl, rfl⟩, ⟨rfl, rfl, rfl, rfl⟩, ⟨rfl, rfl, rfl, rfl⟩, ⟨rfl, rfl, rfl⟩, rfl, by decide⟩

/-- The first convolution's rows, where every edge starts at a node. -/
theorem sage1_h (V : KV) (R : RV)
    (h0 : (V (Proc.devRef .tc main_arg0) : FVec Ideal S50000x2 .f32) = R (Proc.devRef .tc Cert.ReferenceIdeal.main_arg0))
    (h1 : (V (Proc.devRef .tc main_arg1) : IVec S2x800000 32) = R (Proc.devRef .tc Cert.ReferenceIdeal.main_arg1))
    (h3 : (V (Proc.devRef .tc main_arg3) : FVec Ideal S64x2 .f32) = R (Proc.devRef .tc Cert.ReferenceIdeal.main_arg3))
    (h4 : (V (Proc.devRef .tc main_arg4) : FVec Ideal S64 .f32) = R (Proc.devRef .tc Cert.ReferenceIdeal.main_arg4))
    (h5 : (V (Proc.devRef .tc main_arg5) : FVec Ideal S64x2 .f32) = R (Proc.devRef .tc Cert.ReferenceIdeal.main_arg5))
    (s : Fin 800000 → Fin 50000) (hs : ∀ e, source1 R (ix1 e) = BitVec.ofNat 32 (s e).val) :
    (after sage1 V (Proc.devRef .tc main_v44) : FVec Ideal S50000x64 .f32) = res_main_v34 R := by
  have hm : ∀ e : Fin 800000, @Eq EReal (weight1 R (ix1 e)) 1 := fun e => Ideal.ofBits_one_f32
  obtain ⟨c6, c7, c10, c11⟩ := corner1 V
  after_reads_simp
  simp -implicitDefEqProofs only [StableHlo.TRef.toBuf, StableHlo.TRef.ofBuf, cast_cast, cast_eq]
  rw [c6, c7, c10, c11, h0, h1, h3, h4, h5]
  show mix1 _ _ _ _ _ _ = mix1 _ _ _ _ _ _
  refine congrArg₂ (mix1 _ _ _ _) ?_ ?_
  · refine slice_block _ _ _ fun i c i' c' hi hc => ?_
    exact sums_features _ _ _ ⟨rfl, rfl, rfl, rfl, rfl, rfl, rfl, ⟨rfl, rfl⟩, ⟨rfl, rfl⟩, by decide⟩ sums1 (weight1 R) s _ _ _ (fun e => Or.inr (hm e))
      (fun e h => edge_one _ (weight1 R) _ _ _ _ _ zero (fun _ => rfl) e _ h (hs e) (lt s e))
      (fun e h => edge_zero _ (weight1 R) _ _ _ _ _ zero (fun _ => rfl) e _ h rfl (by decide))
      (fun e => edge_source _ _ _ _ (fun _ => rfl) e _ (hs e) (lt s e))
      zero _ (fun e c => bcRows _ _ (weight1 R) e c) _ _ zero zero i c i' c' hi hc
  · refine slice_column _ _ _ _ fun i i' c' hi hc => ?_
    exact sums_counts _ _ _ ⟨rfl, rfl, rfl, rfl, rfl, rfl, rfl, ⟨rfl, rfl⟩, ⟨rfl, rfl⟩, by decide⟩ sums1 (weight1 R) s _ _ (fun e => Or.inr (hm e))
      (fun e h => edge_one _ (weight1 R) _ _ _ _ _ zero (fun _ => rfl) e _ h (hs e) (lt s e))
      (fun e h => edge_zero _ (weight1 R) _ _ _ _ _ zero (fun _ => rfl) e _ h rfl (by decide))
      zero one _ _ zero zero i i' c' hi hc

/-- The edges' weights, sources and destinations before any pooling. -/
theorem sage1_edges (V : KV) (R : RV)
    (h1 : (V (Proc.devRef .tc main_arg1) : IVec S2x800000 32) = R (Proc.devRef .tc Cert.ReferenceIdeal.main_arg1)) :
    (after sage1 V (Proc.devRef .tc main_v4) : FVec Ideal S800000 .f32) = res_main_v4 R
      ∧ (after sage1 V (Proc.devRef .tc main_v1) : IVec S800000 32) = res_main_v1 R
      ∧ (after sage1 V (Proc.devRef .tc main_v3) : IVec S800000 32) = res_main_v3 R := by
  after_reads_simp
  rw [h1]
  exact ⟨rfl, rfl, rfl⟩

/-- What the second convolution computes from the sums `S` over the edges and their counts `D`. -/
def mix2 (x : FVec Ideal S25000x64 .f32) (wl : FVec Ideal S64x64 .f32) (b : FVec Ideal S64 .f32) (wr : FVec Ideal S64x64 .f32)
    (S : FVec Ideal S25000x64 .f32) (D : FVec Ideal S25000 .f32) : FVec Ideal S25000x64 .f32 :=
  maximumf (addf (addf (Host.dotGeneral dot_S25000x64_S64x64_S25000x64_1_0_0_1_n_n none
      (Host.divf S (broadcastInDim S25000x64 ![0, 1] bcast_S25000x1_S25000x64_0_1 (broadcastInDim S25000x1 ![0] bcast_S25000_S25000x1_0
        (maximumf D (broadcastInDim S25000 ![] bcast_S_S25000 (constant S_ .f32 0x3F800000#32))))))
      (transpose S64x64 [1, 0] wl transposes_S64x64_S64x64_1_0))
      (broadcastInDim S25000x64 ![0, 1] bcast_S1x64_S25000x64_0_1 (broadcastInDim S1x64 ![1] bcast_S64_S1x64_1 b)))
      (Host.dotGeneral dot_S25000x64_S64x64_S25000x64_1_0_0_1_n_n none x (transpose S64x64 [1, 0] wr transposes_S64x64_S64x64_1_0)))
    (broadcastInDim S25000x64 ![] bcast_S_S25000x64 (constant S_ .f32 0x00000000#32))

/-- The corners the second table's parts are set at. -/
theorem corner2 (V : KV) : upto sage2 V 6 (Proc.devRef .tc main_v98) = broadcastInDim S1 ![] bcast_S_S1 (constantI S_ 32 0#32)
    ∧ upto sage2 V 6 (Proc.devRef .tc main_v99) = broadcastInDim S1 ![] bcast_S_S1 (constantI S_ 32 0#32)
    ∧ upto sage2 V 12 (Proc.devRef .tc main_v102) = broadcastInDim S1 ![] bcast_S_S1 (constantI S_ 32 0#32)
    ∧ upto sage2 V 12 (Proc.devRef .tc main_v103) = broadcastInDim S1 ![] bcast_S_S1 (constantI S_ 32 64#32) := by
  refine ⟨?_, ?_, ?_, ?_⟩ <;> rfl

/-- The reference's edge weights after the first pooling. -/
abbrev weight2 (R : RV) : FVec Ideal S800000 .f32 := res_main_v80 R

/-- The reference's edge sources after the first pooling. -/
abbrev source2 (R : RV) : IVec S800000 32 := res_main_v83 R

/-- The axes of the second convolution's gathers and sums, in both programs. -/
theorem sums2 : SumsOk (n := 25000) (d := 64) (W := 80) (E := 800000) (N := 25001) gather_S25001x80_S800000x1_S800000x80_1_0_n_n_0_1_180
    Cert.ReferenceIdeal.gather_S25000x64_S800000x1_S800000x64_1_0_n_n_0_1_164 scatter_S25001x80_S800000x1_S800000x80_1_0_0_1
    Cert.ReferenceIdeal.scatter_S25000x64_S800000x1_S800000x64_1_0_0_1 Cert.ReferenceIdeal.scatter_S25000_S800000x1_S800000_n_0_0_1 :=
  ⟨⟨rfl, rfl, rfl, rfl, rfl⟩, ⟨rfl, rfl, rfl, rfl, rfl⟩, ⟨rfl, rfl, rfl, rfl⟩, ⟨rfl, rfl, rfl, rfl⟩, ⟨rfl, rfl, rfl⟩, rfl, by decide⟩

/-- The second convolution's rows, where every edge starts at a kept node and weighs zero or one. -/
theorem sage2_h (V : KV) (R : RV)
    (h0 : (V (Proc.devRef .tc main_v59) : FVec Ideal S25000x64 .f32) = res_main_v49 R)
    (h1 : (V (Proc.devRef .tc main_v90) : FVec Ideal S800000 .f32) = res_main_v80 R)
    (h2 : (V (Proc.devRef .tc main_v93) : IVec S800000 32) = res_main_v83 R)
    (h3 : (V (Proc.devRef .tc main_v96) : IVec S800000 32) = res_main_v86 R)
    (h6 : (V (Proc.devRef .tc main_arg6) : FVec Ideal S64x64 .f32) = R (Proc.devRef .tc Cert.ReferenceIdeal.main_arg6))
    (h7 : (V (Proc.devRef .tc main_arg7) : FVec Ideal S64 .f32) = R (Proc.devRef .tc Cert.ReferenceIdeal.main_arg7))
    (h8 : (V (Proc.devRef .tc main_arg8) : FVec Ideal S64x64 .f32) = R (Proc.devRef .tc Cert.ReferenceIdeal.main_arg8))
    (s : Fin 800000 → Fin 25000) (hs : ∀ e, source2 R (ix1 e) = BitVec.ofNat 32 (s e).val)
    (hm : ∀ e : Fin 800000, @Eq EReal (weight2 R (ix1 e)) 0 ∨ @Eq EReal (weight2 R (ix1 e)) 1) :
    (after sage2 V (Proc.devRef .tc main_v136) : FVec Ideal S25000x64 .f32) = res_main_v123 R := by
  obtain ⟨c98, c99, c102, c103⟩ := corner2 V
  after_reads_simp
  simp -implicitDefEqProofs only [StableHlo.TRef.toBuf, StableHlo.TRef.ofBuf, cast_cast, cast_eq]
  rw [c98, c99, c102, c103, h0, h1, h2, h3, h6, h7, h8]
  show mix2 _ _ _ _ _ _ = mix2 _ _ _ _ _ _
  refine congrArg₂ (mix2 _ _ _ _) ?_ ?_
  · refine slice_block _ _ _ fun i c i' c' hi hc => ?_
    exact sums_features _ _ _ ⟨rfl, rfl, rfl, rfl, rfl, rfl, rfl, ⟨rfl, rfl⟩, ⟨rfl, rfl⟩, by decide⟩ sums2 (weight2 R) s _ _ _ hm
      (fun e h => edge_one _ (weight2 R) _ _ _ _ _ zero (fun _ => rfl) e _ h (hs e) (lt s e))
      (fun e h => edge_zero _ (weight2 R) _ _ _ _ _ zero (fun _ => rfl) e _ h rfl (by decide))
      (fun e => edge_source _ _ _ _ (fun _ => rfl) e _ (hs e) (lt s e))
      zero _ (fun e c => bcRows _ _ (weight2 R) e c) _ _ zero zero i c i' c' hi hc
  · refine slice_column _ _ _ _ fun i i' c' hi hc => ?_
    exact sums_counts _ _ _ ⟨rfl, rfl, rfl, rfl, rfl, rfl, rfl, ⟨rfl, rfl⟩, ⟨rfl, rfl⟩, by decide⟩ sums2 (weight2 R) s _ _ hm
      (fun e h => edge_one _ (weight2 R) _ _ _ _ _ zero (fun _ => rfl) e _ h (hs e) (lt s e))
      (fun e h => edge_zero _ (weight2 R) _ _ _ _ _ zero (fun _ => rfl) e _ h rfl (by decide))
      zero one _ _ zero zero i i' c' hi hc

end Cert.KernelIdeal.Stage

end
-- ==== Proof.Chain.lean ====
/- The stages one after the other: from equal arguments, with every edge starting at a node, the four pooled arrays the
   kernel program reads out are the reference's. -/
module

public import proofs.«01_k».proof.Proof.Pool
public import proofs.«01_k».proof.Proof.Sage
public import Idealize.ShloMosaic.Lib.Routing.OpsOrder

@[expose] public section

set_option maxRecDepth 16384

noncomputable section

namespace Cert.KernelIdeal.Stage

open Cert.KernelIdeal Cert.KernelIdeal.Gen Idealize.ShloMosaic Idealize.ShloMosaic.TcCoe Idealize.ShloMosaic.StableHlo
open Idealize.ShloMosaic.ValueIdx Idealize.ShloMosaic.Routing
open Cert.ReferenceIdeal.Value Cert.Segments

/-- The kernel program's contents of a device's buffers, and the reference's. -/
local notation "KV" => Valuation τ sig (Elt Ideal)
local notation "RV" => Valuation Cert.ReferenceIdeal.τ Cert.ReferenceIdeal.sig (Elt Ideal)

/-! ## The weights and sources after the first pooling -/

/-- A truth value as a float is zero or one. -/
theorem bit_zero_or_one (b : BitVec 1) : @Eq EReal (((b.toNat : ℝ) : EReal)) 0 ∨ @Eq EReal (((b.toNat : ℝ) : EReal)) 1 := by
  have : b.toNat < 2 := b.isLt
  rcases (by omega : b.toNat = 0 ∨ b.toNat = 1) with h | h <;> rw [h] <;> simp

/-- After the first pooling an edge weighs zero or one. -/
theorem weight2_zero_or_one (R : RV) (e : Fin 800000) : @Eq EReal (weight2 R (ix1 e)) 0 ∨ @Eq EReal (weight2 R (ix1 e)) 1 := by
  show @Eq EReal ((Ideal.ofBits .f32 0x3F800000#32 * (((IntOp.cmpi .sge (res_main_v65 R (ix1 e)) 0#32).toNat : ℝ) : EReal))
      * (((IntOp.cmpi .sge (res_main_v72 R (ix1 e)) 0#32).toNat : ℝ) : EReal)) 0
    ∨ @Eq EReal ((Ideal.ofBits .f32 0x3F800000#32 * (((IntOp.cmpi .sge (res_main_v65 R (ix1 e)) 0#32).toNat : ℝ) : EReal))
      * (((IntOp.cmpi .sge (res_main_v72 R (ix1 e)) 0#32).toNat : ℝ) : EReal)) 1
  rw [Ideal.ofBits_one_f32, one_mul]
  rcases bit_zero_or_one (IntOp.cmpi .sge (res_main_v65 R (ix1 e)) 0#32) with h | h <;>
    rcases bit_zero_or_one (IntOp.cmpi .sge (res_main_v72 R (ix1 e)) 0#32) with h' | h' <;> rw [h, h'] <;> simp

/-- The renumbering of the nodes: a kept node's new number, or minus one. -/
theorem renumber_range (R : RV) (i : S50000.Idx) :
    (fun w : BitVec 32 => w = 4294967295#32 ∨ ∃ k : Fin 25000, w = BitVec.ofNat 32 k.val) ((res_main_v58 R : IVec S50000 32) i) := by
  unfold res_main_v58
  refine scatter_forall _ _ (fun w : BitVec 32 => w = 4294967295#32 ∨ ∃ k : Fin 25000, w = BitVec.ofNat 32 k.val) (fun _ _ _ h => h) _ _ _ ?_ ?_ i
  · intro i
    exact Or.inl rfl
  · intro j
    exact Or.inr ⟨j 0, rfl⟩

/-- After the first pooling an edge's source is a kept node's number (zero for the edges that weigh zero). -/
theorem source2_range (R : RV) (e : Fin 800000) : ∃ k : Fin 25000, source2 R (ix1 e) = BitVec.ofNat 32 k.val := by
  have h : ∃ i, (res_main_v65 R : IVec S800000 32) (ix1 e) = (res_main_v58 R : IVec S50000 32) i := by
    unfold res_main_v65 Host.gather
    exact ⟨_, rfl⟩
  obtain ⟨i, h⟩ := h
  show ∃ k : Fin 25000, Scalar.select (IntOp.cmpi .sge ((res_main_v65 R : IVec S800000 32) (ix1 e)) 0#32)
    ((res_main_v65 R : IVec S800000 32) (ix1 e)) 0#32 = BitVec.ofNat 32 k.val
  rw [h]
  rcases renumber_range R i with h' | ⟨k, h'⟩
  · rw [h']
    exact ⟨⟨0, by decide⟩, by decide⟩
  · rw [h']
    by_cases hc : IntOp.cmpi .sge (BitVec.ofNat 32 k.val) 0#32 = 1#1
    · exact ⟨k, if_pos hc⟩
    · exact ⟨⟨0, by decide⟩, if_neg hc⟩

/-! ## What a stage leaves alone -/

/-- A stage that writes the buffers from number `a` on keeps those before. -/
theorem kept {l : List (HloOp τ sig (Elt Ideal))} {a n : ℕ} (h : l.map HloOp.writes = (bufs a n).map fun w => {Proc.devRef (τ := τ) .tc w})
    (k : Fin 610) (hk : k.val < a) (ha : a + n ≤ 610) (V : KV) : after l V (Proc.devRef .tc (buf k)) = V (Proc.devRef .tc (buf k)) :=
  after_of_writes_sub _ _ (forall_writes_sub_of_map h) (not_mem_bufs hk ha)

/-- The first mean-aggregation layer keeps the buffers numbered below its own. -/
theorem kept_sage1 (k : Fin 610) (V : KV) (hk : k.val < 23 := by decide) : after sage1 V (Proc.devRef .tc (buf k)) = V (Proc.devRef .tc (buf k)) :=
  kept (a := 23) (n := 62) rfl k hk (by omega) V
/-- The first pooling keeps the buffers numbered below its own. -/
theorem kept_pool1 (k : Fin 610) (V : KV) (hk : k.val < 85 := by decide) : after pool1 V (Proc.devRef .tc (buf k)) = V (Proc.devRef .tc (buf k)) :=
  kept (a := 85) (n := 76) rfl k hk (by omega) V
/-- The second mean-aggregation layer keeps the buffers numbered below its own. -/
theorem kept_sage2 (k : Fin 610) (V : KV) (hk : k.val < 161 := by decide) : after sage2 V (Proc.devRef .tc (buf k)) = V (Proc.devRef .tc (buf k)) :=
  kept (a := 161) (n := 56) rfl k hk (by omega) V
/-- The second pooling keeps the buffers numbered below its own. -/
theorem kept_pool2 (k : Fin 610) (V : KV) (hk : k.val < 217 := by decide) : after pool2 V (Proc.devRef .tc (buf k)) = V (Proc.devRef .tc (buf k)) :=
  kept (a := 217) (n := 76) rfl k hk (by omega) V
/-- The first normalized convolution keeps the buffers numbered below its own. -/
theorem kept_gcn3 (k : Fin 610) (V : KV) (hk : k.val < 293 := by decide) : after gcn3 V (Proc.devRef .tc (buf k)) = V (Proc.devRef .tc (buf k)) :=
  kept (a := 293) (n := 76) rfl k hk (by omega) V
/-- The third pooling keeps the buffers numbered below its own. -/
theorem kept_pool3 (k : Fin 610) (V : KV) (hk : k.val < 369 := by decide) : after pool3 V (Proc.devRef .tc (buf k)) = V (Proc.devRef .tc (buf k)) :=
  kept (a := 369) (n := 76) rfl k hk (by omega) V
/-- The second normalized convolution keeps the buffers numbered below its own. -/
theorem kept_gcn4 (k : Fin 610) (V : KV) (hk : k.val < 445 := by decide) : after gcn4 V (Proc.devRef .tc (buf k)) = V (Proc.devRef .tc (buf k)) :=
  kept (a := 445) (n := 76) rfl k hk (by omega) V
/-- The fourth pooling keeps the buffers numbered below its own. -/
theorem kept_pool4 (k : Fin 610) (V : KV) (hk : k.val < 521 := by decide) : after pool4 V (Proc.devRef .tc (buf k)) = V (Proc.devRef .tc (buf k)) :=
  kept (a := 521) (n := 76) rfl k hk (by omega) V

/-! ## The chain -/

/-- The buffers before the padding: the pooled arrays are the reference's. -/
theorem pooled (V : KV) (R : RV)
    (a0 : (V (Proc.devRef .tc main_arg0) : FVec Ideal S50000x2 .f32) = R (Proc.devRef .tc Cert.ReferenceIdeal.main_arg0))
    (a1 : (V (Proc.devRef .tc main_arg1) : IVec S2x800000 32) = R (Proc.devRef .tc Cert.ReferenceIdeal.main_arg1))
    (a3 : (V (Proc.devRef .tc main_arg3) : FVec Ideal S64x2 .f32) = R (Proc.devRef .tc Cert.ReferenceIdeal.main_arg3))
    (a4 : (V (Proc.devRef .tc main_arg4) : FVec Ideal S64 .f32) = R (Proc.devRef .tc Cert.ReferenceIdeal.main_arg4))
    (a5 : (V (Proc.devRef .tc main_arg5) : FVec Ideal S64x2 .f32) = R (Proc.devRef .tc Cert.ReferenceIdeal.main_arg5))
    (a6 : (V (Proc.devRef .tc main_arg6) : FVec Ideal S64x64 .f32) = R (Proc.devRef .tc Cert.ReferenceIdeal.main_arg6))
    (a7 : (V (Proc.devRef .tc main_arg7) : FVec Ideal S64 .f32) = R (Proc.devRef .tc Cert.ReferenceIdeal.main_arg7))
    (a8 : (V (Proc.devRef .tc main_arg8) : FVec Ideal S64x64 .f32) = R (Proc.devRef .tc Cert.ReferenceIdeal.main_arg8))
    (a9 : (V (Proc.devRef .tc main_arg9) : FVec Ideal S64x64 .f32) = R (Proc.devRef .tc Cert.ReferenceIdeal.main_arg9))
    (a10 : (V (Proc.devRef .tc main_arg10) : FVec Ideal S64 .f32) = R (Proc.devRef .tc Cert.ReferenceIdeal.main_arg10))
    (a11 : (V (Proc.devRef .tc main_arg11) : FVec Ideal S64x64 .f32) = R (Proc.devRef .tc Cert.ReferenceIdeal.main_arg11))
    (a12 : (V (Proc.devRef .tc main_arg12) : FVec Ideal S64 .f32) = R (Proc.devRef .tc Cert.ReferenceIdeal.main_arg12))
    (a13 : (V (Proc.devRef .tc main_arg13) : FVec Ideal S64 .f32) = R (Proc.devRef .tc Cert.ReferenceIdeal.main_arg13))
    (a14 : (V (Proc.devRef .tc main_arg14) : FVec Ideal S64 .f32) = R (Proc.devRef .tc Cert.ReferenceIdeal.main_arg14))
    (a15 : (V (Proc.devRef .tc main_arg15) : FVec Ideal S64 .f32) = R (Proc.devRef .tc Cert.ReferenceIdeal.main_arg15))
    (a16 : (V (Proc.devRef .tc main_arg16) : FVec Ideal S64 .f32) = R (Proc.devRef .tc Cert.ReferenceIdeal.main_arg16))
    (s : Fin 800000 → Fin 50000) (hs : ∀ e, source1 R (ix1 e) = BitVec.ofNat 32 (s e).val) :
    (after pool4 (after gcn4 (after pool3 (after gcn3 (after pool2 (after sage2 (after pool1 (after sage1 V))))))) (Proc.devRef .tc main_v59) : FVec Ideal S25000x64 .f32) = res_main_v49 R
      ∧ (after pool4 (after gcn4 (after pool3 (after gcn3 (after pool2 (after sage2 (after pool1 (after sage1 V))))))) (Proc.devRef .tc main_v151) : FVec Ideal S12500x64 .f32) = res_main_v138 R
      ∧ (after pool4 (after gcn4 (after pool3 (after gcn3 (after pool2 (after sage2 (after pool1 (after sage1 V))))))) (Proc.devRef .tc main_v261) : FVec Ideal S6250x64 .f32) = res_main_v245 R
      ∧ (after pool4 (after gcn4 (after pool3 (after gcn3 (after pool2 (after sage2 (after pool1 (after sage1 V))))))) (Proc.devRef .tc main_v371) : FVec Ideal S3125x64 .f32) = res_main_v352 R := by
  have h1 := sage1_h V R a0 a1 a3 a4 a5 s hs
  obtain ⟨w1, s1, d1⟩ := sage1_edges V R a1
  obtain ⟨p1, w2, s2, d2⟩ := pool1_eq _ R h1 w1 s1 d1 ((kept_sage1 13 _).trans (a13))
  choose s' hs' using source2_range R
  have h2 := sage2_h _ R p1 w2 s2 d2 ((kept_pool1 6 _).trans ((kept_sage1 6 _).trans (a6))) ((kept_pool1 7 _).trans ((kept_sage1 7 _).trans (a7))) ((kept_pool1 8 _).trans ((kept_sage1 8 _).trans (a8))) s' hs' (weight2_zero_or_one R)
  obtain ⟨p2, w3, s3, d3⟩ := pool2_eq _ R h2 ((kept_sage2 146 _).trans (w2)) ((kept_sage2 153 _).trans (s2)) ((kept_sage2 160 _).trans (d2)) ((kept_sage2 14 _).trans ((kept_pool1 14 _).trans ((kept_sage1 14 _).trans (a14))))
  have h3 := gcn3_eq _ R p2 w3 s3 d3 ((kept_pool2 9 _).trans ((kept_sage2 9 _).trans ((kept_pool1 9 _).trans ((kept_sage1 9 _).trans (a9))))) ((kept_pool2 10 _).trans ((kept_sage2 10 _).trans ((kept_pool1 10 _).trans ((kept_sage1 10 _).trans (a10)))))
  obtain ⟨p3, w4, s4, d4⟩ := pool3_eq _ R h3 ((kept_gcn3 278 _).trans (w3)) ((kept_gcn3 285 _).trans (s3)) ((kept_gcn3 292 _).trans (d3)) ((kept_gcn3 15 _).trans ((kept_pool2 15 _).trans ((kept_sage2 15 _).trans ((kept_pool1 15 _).trans ((kept_sage1 15 _).trans (a15))))))
  have h4 := gcn4_eq _ R p3 w4 s4 d4 ((kept_pool3 11 _).trans ((kept_gcn3 11 _).trans ((kept_pool2 11 _).trans ((kept_sage2 11 _).trans ((kept_pool1 11 _).trans ((kept_sage1 11 _).trans (a11))))))) ((kept_pool3 12 _).trans ((kept_gcn3 12 _).trans ((kept_pool2 12 _).trans ((kept_sage2 12 _).trans ((kept_pool1 12 _).trans ((kept_sage1 12 _).trans (a12)))))))
  have p4 := pool4_eq _ R h4 ((kept_gcn4 16 _).trans ((kept_pool3 16 _).trans ((kept_gcn3 16 _).trans ((kept_pool2 16 _).trans ((kept_sage2 16 _).trans ((kept_pool1 16 _).trans ((kept_sage1 16 _).trans (a16))))))))
  exact ⟨(kept_pool4 106 _).trans ((kept_gcn4 106 _).trans ((kept_pool3 106 _).trans ((kept_gcn3 106 _).trans ((kept_pool2 106 _).trans ((kept_sage2 106 _).trans (p1)))))), (kept_pool4 238 _).trans ((kept_gcn4 238 _).trans ((kept_pool3 238 _).trans ((kept_gcn3 238 _).trans (p2)))), (kept_pool4 390 _).trans ((kept_gcn4 390 _).trans (p3)), p4⟩

end Cert.KernelIdeal.Stage

end
-- ==== Proof.Readout.lean ====
/- Readouts, on extended reals: the maximum and the sum down the columns of an array padded with rows below, where a kernel
   masks those rows, are the unpadded array's, as the reference takes them. -/
module

public import Idealize.ShloMosaic.PureOps.Ideal
public import Idealize.ShloMosaic.Lib.KernelVsHost
public import Idealize.ShloMosaic.Lib.IdealHost
public import Idealize.ShloMosaic.Lib.Routing.BitFacts
public import Idealize.ShloMosaic.Lib.Routing.OpsOne

@[expose] public section

set_option maxRecDepth 16384

noncomputable section

namespace Cert.Readout

open Idealize.ShloMosaic Idealize.ShloMosaic.ValueIdx Idealize.ShloMosaic.Routing
open scoped BigOperators

variable {n N C : Nat}

/-- The index above column `c` in row `k`. -/
theorem lift_col (h : (shape2 N C).Reduces [0] (shape1 C)) (c : (shape1 C).Idx) (k : Fin N) : h.lift c k = ix2 k (c 0) := by
  funext a
  refine Fin.ext ?_
  match a with
  | ⟨0, _⟩ => rfl
  | ⟨1, _⟩ => rfl

/-- The padded array `P` with the rows from `n` on replaced by `z`. -/
abbrev masked (k : BitVec 32) (P : FVec Ideal (shape2 N C) .f32) (z : Ideal .f32) (hi : (shape2 N 1).Iotas .tc 32 [0])
    (hs : (shape2 N 1).ShapeCasts (shape2 N 1)) (hb : (shape2 N 1).Broadcasts (shape2 N C)) (hp : (shape2 N C).ShapeCasts (shape2 N C)) :
    FVec Ideal (shape2 N C) .f32 :=
  select (broadcastTo (shape2 N C) (shapeCast (shape2 N 1) (cmpi .slt (iota .tc (shape2 N 1) 32 [0] hi) (broadcast (shape2 N 1) k)) hs) hb)
    (shapeCast (shape2 N C) P hp) (broadcast (shape2 N C) z)

/-- The masked array's elements. -/
theorem masked_apply (P : FVec Ideal (shape2 N C) .f32) (z : Ideal .f32) (hi : (shape2 N 1).Iotas .tc 32 [0])
    (hs : (shape2 N 1).ShapeCasts (shape2 N 1)) (hb : (shape2 N 1).Broadcasts (shape2 N C)) (hp : (shape2 N C).ShapeCasts (shape2 N C))
    (hN : N < 2 ^ 31) (hn : n ≤ N) (r : Fin N) (c : Fin C) :
    masked (BitVec.ofNat 32 n) P z hi hs hb hp (ix2 r c) = if r.val < n then P (ix2 r c) else z := by
  have hr := r.isLt
  unfold masked
  rw [shapeCast_self, shapeCast_self]
  show Scalar.select (broadcastTo (shape2 N C) _ hb (ix2 r c)) (P (ix2 r c)) z = _
  rw [broadcastTo_apply _ hb (ix2 r c) (ix2 r (0 : Fin 1)) (by
    intro a
    match a with
    | ⟨0, _⟩ =>
      show r.val = if N = 1 then 0 else r.val
      split <;> omega
    | ⟨1, _⟩ =>
      show (0 : Nat) = if (1 : Nat) = 1 then 0 else _
      rw [if_pos rfl])]
  show Scalar.select (IntOp.cmpi .slt (iota .tc (shape2 N 1) 32 [0] hi (ix2 r (0 : Fin 1))) (BitVec.ofNat 32 n)) _ _ = _
  rw [iota_single_apply]
  show Scalar.select (BitVec.ofBool ((BitVec.ofNat 32 r.val).slt (BitVec.ofNat 32 n))) _ _ = _
  rw [slt_ofNat32 (by omega) (by omega)]
  by_cases h : r.val < n <;> simp [h, Scalar.select]

/-- The masked array above column `c` in one of the first `n` rows. -/
theorem masked_low (X : FVec Ideal (shape2 n C) .f32) (P : FVec Ideal (shape2 N C) .f32) (z : Ideal .f32)
    (hP : ∀ (i : Fin n) (i' : Fin N) (c : Fin C), i'.val = i.val → P (ix2 i' c) = X (ix2 i c)) (hi : (shape2 N 1).Iotas .tc 32 [0])
    (hs : (shape2 N 1).ShapeCasts (shape2 N 1)) (hb : (shape2 N 1).Broadcasts (shape2 N C)) (hp : (shape2 N C).ShapeCasts (shape2 N C))
    (hN : N < 2 ^ 31) (hn : n ≤ N) (h : (shape2 N C).Reduces [0] (shape1 C))
    (hr : (shape2 n C).Reduces [0] (shape1 C)) (c : (shape1 C).Idx) (k : Fin n) (k' : Fin N) (hk : k'.val = k.val) :
    masked (BitVec.ofNat 32 n) P z hi hs hb hp (h.lift c k') = X (hr.lift c k) :=
  (congrArg _ (lift_col h c k')).trans ((masked_apply P z hi hs hb hp hN hn k' (c 0)).trans
    ((if_pos (lt_of_eq_of_lt hk k.isLt)).trans ((hP k k' (c 0) hk).trans (congrArg X (lift_col hr c k).symm))))

/-- The masked array above column `c` in a later row. -/
theorem masked_high (P : FVec Ideal (shape2 N C) .f32) (z : Ideal .f32) (hi : (shape2 N 1).Iotas .tc 32 [0])
    (hs : (shape2 N 1).ShapeCasts (shape2 N 1)) (hb : (shape2 N 1).Broadcasts (shape2 N C)) (hp : (shape2 N C).ShapeCasts (shape2 N C))
    (hN : N < 2 ^ 31) (hn : n ≤ N) (h : (shape2 N C).Reduces [0] (shape1 C))
    (c : (shape1 C).Idx) (k : Fin N) (hk : ¬ k.val < n) : masked (BitVec.ofNat 32 n) P z hi hs hb hp (h.lift c k) = z :=
  (congrArg _ (lift_col h c k)).trans ((masked_apply P z hi hs hb hp hN hn k (c 0)).trans (if_neg hk))

/-- The masked maximum down a column is the unpadded array's. -/
theorem max_eq (X : FVec Ideal (shape2 n C) .f32) (P : FVec Ideal (shape2 N C) .f32) (b : BitVec 32)
    (hP : ∀ (i : Fin n) (i' : Fin N) (c : Fin C), i'.val = i.val → P (ix2 i' c) = X (ix2 i c))
    (hi : (shape2 N 1).Iotas .tc 32 [0])
    (hs : (shape2 N 1).ShapeCasts (shape2 N 1)) (hb : (shape2 N 1).Broadcasts (shape2 N C)) (hp : (shape2 N C).ShapeCasts (shape2 N C))
    (hN : N < 2 ^ 31) (hn : n ≤ N) (h : (shape2 N C).Reduces [0] (shape1 C)) (hφ : FKind.Formats .f32) (hacc : b = FKind.maximumf.neutral .f32 hφ)
    {u : Shape} (hr : (shape2 n C).Reduces [0] (shape1 C)) (h' : (shape2 n C).ReducesTo [0] (shape1 C)) (hu : 0 < u.numel) :
    multiReduction .maximumf [0] (shape1 C) (masked (BitVec.ofNat 32 n) P (Scalar.ofBits (F := Ideal) .f32 b) hi hs hb hp) b h hφ hacc
      = Host.reduce FloatOps.maximumf X (constant (F := Ideal) u .f32 b) h' hu := by
  funext c
  rw [Ideal.multiReduction_maximumf_single, Host.reduce_eq_fold_single _ _ _ h' hr]
  refine eq_of_forall_ge_iff fun t => ?_
  refine (Finset.fold_max_le (β := EReal) t).trans (Iff.trans ?_ (Finset.fold_max_le (β := EReal) t).symm)
  constructor
  · rintro ⟨h0, h1⟩
    refine ⟨h0, fun k _ => ?_⟩
    exact le_of_eq_of_le (masked_low X P _ hP hi hs hb hp hN hn h hr c k (Fin.castLE hn k) rfl).symm (h1 (Fin.castLE hn k) (Finset.mem_univ _))
  · rintro ⟨h0, h1⟩
    refine ⟨h0, fun k _ => ?_⟩
    by_cases hk : (k : Fin N).val < n
    · exact le_of_eq_of_le (masked_low X P _ hP hi hs hb hp hN hn h hr c ⟨k.val, hk⟩ k rfl) (h1 (⟨k.val, hk⟩ : Fin n) (Finset.mem_univ _))
    · exact le_of_eq_of_le (masked_high P _ hi hs hb hp hN hn h c k hk) h0

/-- A sum whose terms from `n` on are zero is the sum of the first `n`. -/
theorem sum_low (hn : n ≤ N) (g : Fin N → EReal) (f : Fin n → EReal) (hf : ∀ k, g (Fin.castLE hn k) = f k) (hg : ∀ k : Fin N, n ≤ k.val → g k = 0) :
    ∑ k, g k = ∑ k, f k := by
  obtain ⟨p, rfl⟩ := Nat.exists_eq_add_of_le hn
  rw [Fin.sum_univ_add, Finset.sum_eq_zero (s := (Finset.univ : Finset (Fin p))) fun k _ => hg _ (Nat.le_add_right n k.val), add_zero]
  exact Finset.sum_congr rfl fun k _ => hf k

/-- The masked sum down a column is the unpadded array's. -/
theorem sum_eq (X : FVec Ideal (shape2 n C) .f32) (P : FVec Ideal (shape2 N C) .f32)
    (hP : ∀ (i : Fin n) (i' : Fin N) (c : Fin C), i'.val = i.val → P (ix2 i' c) = X (ix2 i c))
    (hi : (shape2 N 1).Iotas .tc 32 [0])
    (hs : (shape2 N 1).ShapeCasts (shape2 N 1)) (hb : (shape2 N 1).Broadcasts (shape2 N C)) (hp : (shape2 N C).ShapeCasts (shape2 N C))
    (hN : N < 2 ^ 31) (hn : n ≤ N) (h : (shape2 N C).Reduces [0] (shape1 C)) (hφ : FKind.Formats .f32)
    (hacc : 0x00000000#32 = FKind.add.neutral .f32 hφ)
    {u : Shape} (hr : (shape2 n C).Reduces [0] (shape1 C)) (h' : (shape2 n C).ReducesTo [0] (shape1 C)) (hu : 0 < u.numel) :
    multiReduction .add [0] (shape1 C) (masked (BitVec.ofNat 32 n) P (Scalar.ofBits (F := Ideal) .f32 0x00000000#32) hi hs hb hp) 0x00000000#32 h hφ hacc
      = Host.reduceAdd X (constant (F := Ideal) u .f32 0x00000000#32) h' hu := by
  funext c
  rw [Ideal.multiReduction_add_single, hostReduceAdd_apply, Ideal.hostReduceAdd_single h' hr]
  refine Eq.trans (sum_low hn (fun k : Fin N => masked (BitVec.ofNat 32 n) P (Scalar.ofBits (F := Ideal) .f32 0x00000000#32) hi hs hb hp (h.lift c k))
    (fun k : Fin n => X (hr.lift c k)) (fun k => masked_low X P _ hP hi hs hb hp hN hn h hr c k (Fin.castLE hn k) rfl)
    fun k hk => (masked_high P _ hi hs hb hp hN hn h c k (Nat.not_lt.2 hk)).trans Ideal.ofBits_zero_f32) ?_
  refine (zero_add _).symm.trans (congrArg (· + _) ?_)
  exact Ideal.ofBits_zero_f32.symm

end Cert.Readout

end
-- ==== Proof.Head.lean ====
/- The compiled region's head: of padded arrays it computes what the reference computes of the arrays before the padding. -/
module

public import proofs.«01_k».proof.Proof.Frame
public import proofs.«01_k».proof.Proof.Readout
public import proofs.«01_k».proof.Proof.Gen.ReferenceIdeal.Run

@[expose] public section

set_option maxRecDepth 16384

noncomputable section

namespace Cert.KernelIdeal.Stage

open Cert.KernelIdeal Cert.KernelIdeal.Gen Idealize.ShloMosaic Idealize.ShloMosaic.TcCoe
open Idealize.ShloMosaic.Routing
open Cert.ReferenceIdeal.Value Cert.Readout

/-! ## The kernel's steps -/

/-- A readout: the maxima beside the means, from the maxima, the sums and the number of rows. -/
def readK (mx sm : FVec Ideal S64 .f32) (b : BitVec 32) : FVec Ideal S1x128 .f32 :=
  concatenate S1x128 1 [⟨S1x64, shapeCast S1x64 mx shapeCasts_S64_S1x64⟩,
    ⟨S1x64, divf (shapeCast S1x64 sm shapeCasts_S64_S1x64) (broadcast S1x64 (Scalar.ofBits (F := Ideal) .f32 b))⟩] concatenates_S1x64_S1x64_S1x128_d1

/-- The three-layer network. -/
def netK (z : FVec Ideal S1x128 .f32) (x4 : FVec Ideal S128x128 .f32) (x5 : FVec Ideal S128 .f32) (x6 : FVec Ideal S64x128 .f32)
    (x7 : FVec Ideal S64 .f32) (x8 : FVec Ideal S2x64 .f32) (x9 : FVec Ideal S2 .f32) : FVec Ideal S1x2 .f32 :=
  addf (matmul dot_S1x64_S64x2_S1x2_1_0_0_1_n_n none
    (maximumf (addf (matmul dot_S1x128_S128x64_S1x64_1_0_0_1_n_n none
      (maximumf (addf (matmul dot_S1x128_S128x128_S1x128_1_0_0_1_n_n none z (transpose S128x128 [1, 0] x4 transposes_S128x128_p1_0_S128x128)
          (constant S1x128 .f32 0x00000000#32)) (shapeCast S1x128 x5 shapeCasts_S128_S1x128))
        (broadcast S1x128 (Scalar.ofBits .f32 0x00000000#32)))
      (transpose S128x64 [1, 0] x6 transposes_S64x128_p1_0_S128x64) (constant S1x64 .f32 0x00000000#32)) (shapeCast S1x64 x7 shapeCasts_S64_S1x64))
      (broadcast S1x64 (Scalar.ofBits .f32 0x00000000#32)))
    (transpose S64x2 [1, 0] x8 transposes_S2x64_p1_0_S64x2) (constant S1x2 .f32 0x00000000#32)) (shapeCast S1x2 x9 shapeCasts_S2_S1x2)

/-- The exponentials of the logits less their maximum. -/
def expK (l : FVec Ideal S1x2 .f32) : FVec Ideal S1x2 .f32 :=
  exp (subf l (broadcastTo S1x2 (shapeCast S1x1 (multiReduction .maximumf [1] S1 l 0xFF800000#32 reduces_S1x2_S1 (.inl rfl) rfl) shapeCasts_S1_S1x1)
    broadcasts_S1x1_S1x2))

/-- The exponentials over their sum. -/
def softK (e : FVec Ideal S1x2 .f32) : FVec Ideal S1x2 .f32 :=
  divf e (broadcastTo S1x2 (shapeCast S1x1 (multiReduction .add [1] S1 e 0x00000000#32 reduces_S1x2_S1 (.inl rfl) rfl) shapeCasts_S1_S1x1)
    broadcasts_S1x1_S1x2)

/-- The maxima of the masked columns. -/
abbrev maxK {N : Nat} (k : BitVec 32) (P : FVec Ideal (shape2 N 64) .f32) (hi : (shape2 N 1).Iotas .tc 32 [0])
    (hs : (shape2 N 1).ShapeCasts (shape2 N 1)) (hb : (shape2 N 1).Broadcasts (shape2 N 64)) (hp : (shape2 N 64).ShapeCasts (shape2 N 64))
    (h : (shape2 N 64).Reduces [0] S64) : FVec Ideal S64 .f32 :=
  multiReduction .maximumf [0] S64 (masked k P (Scalar.ofBits (F := Ideal) .f32 0xFF800000#32) hi hs hb hp) 0xFF800000#32 h (.inl rfl) rfl

/-- The sums of the masked columns. -/
abbrev sumK {N : Nat} (k : BitVec 32) (P : FVec Ideal (shape2 N 64) .f32) (hi : (shape2 N 1).Iotas .tc 32 [0])
    (hs : (shape2 N 1).ShapeCasts (shape2 N 1)) (hb : (shape2 N 1).Broadcasts (shape2 N 64)) (hp : (shape2 N 64).ShapeCasts (shape2 N 64))
    (h : (shape2 N 64).Reduces [0] S64) : FVec Ideal S64 .f32 :=
  multiReduction .add [0] S64 (masked k P (Scalar.ofBits (F := Ideal) .f32 0x00000000#32) hi hs hb hp) 0x00000000#32 h (.inl rfl) rfl

/-- The head in those steps. -/
theorem headOf_steps (x0 : Vec Ideal S25000x64 .f32) (x1 : Vec Ideal S12504x64 .f32) (x2 : Vec Ideal S6256x64 .f32) (x3 : Vec Ideal S3128x64 .f32)
    (x4 : Vec Ideal S128x128 .f32) (x5 : Vec Ideal S128 .f32) (x6 : Vec Ideal S64x128 .f32) (x7 : Vec Ideal S64 .f32) (x8 : Vec Ideal S2x64 .f32)
    (x9 : Vec Ideal S2 .f32) :
    headOf x0 x1 x2 x3 x4 x5 x6 x7 x8 x9
      = softK (expK (netK (addf (addf (addf
          (readK (maxK (N := 25000) 25000#32 x0 iota_S25000x1_d0_w32 shapeCasts_S25000x1_S25000x1 broadcasts_S25000x1_S25000x64 shapeCasts_S25000x64_S25000x64 reduces_S25000x64_S64)
            (sumK (N := 25000) 25000#32 x0 iota_S25000x1_d0_w32 shapeCasts_S25000x1_S25000x1 broadcasts_S25000x1_S25000x64 shapeCasts_S25000x64_S25000x64 reduces_S25000x64_S64) 0x46C35000#32)
          (readK (maxK (N := 12504) 12500#32 x1 iota_S12504x1_d0_w32 shapeCasts_S12504x1_S12504x1 broadcasts_S12504x1_S12504x64 shapeCasts_S12504x64_S12504x64 reduces_S12504x64_S64)
            (sumK (N := 12504) 12500#32 x1 iota_S12504x1_d0_w32 shapeCasts_S12504x1_S12504x1 broadcasts_S12504x1_S12504x64 shapeCasts_S12504x64_S12504x64 reduces_S12504x64_S64) 0x46435000#32))
          (readK (maxK (N := 6256) 6250#32 x2 iota_S6256x1_d0_w32 shapeCasts_S6256x1_S6256x1 broadcasts_S6256x1_S6256x64 shapeCasts_S6256x64_S6256x64 reduces_S6256x64_S64)
            (sumK (N := 6256) 6250#32 x2 iota_S6256x1_d0_w32 shapeCasts_S6256x1_S6256x1 broadcasts_S6256x1_S6256x64 shapeCasts_S6256x64_S6256x64 reduces_S6256x64_S64) 0x45C35000#32))
          (readK (maxK (N := 3128) 3125#32 x3 iota_S3128x1_d0_w32 shapeCasts_S3128x1_S3128x1 broadcasts_S3128x1_S3128x64 shapeCasts_S3128x64_S3128x64 reduces_S3128x64_S64)
            (sumK (N := 3128) 3125#32 x3 iota_S3128x1_d0_w32 shapeCasts_S3128x1_S3128x1 broadcasts_S3128x1_S3128x64 shapeCasts_S3128x64_S3128x64 reduces_S3128x64_S64) 0x45435000#32))
        x4 x5 x6 x7 x8 x9)) := rfl

/-! ## The same steps as the reference takes them -/

/-- A vector as one row, either way. -/
theorem row_eq {α : Type} {n : Nat} (x : (shape1 n).Idx → α) (h : (shape1 n).ShapeCasts (shape2 1 n))
    (hd : (shape1 n).BroadcastsInDim (shape2 1 n) (![1] : Fin 1 → Fin (shape2 1 n).rank)) :
    shapeCast (shape2 1 n) x h = broadcastInDim (shape2 1 n) ![1] hd x := by
  funext j
  have hj : (j 0).val < 1 := (j 0).isLt
  have hj' : (j 1).val < n := (j 1).isLt
  rw [shapeCast_apply x h j (ValueIdx.ix1 (j 1 : Fin n)) (by
      rw [Shape.rowMajor_val_two, Shape.rowMajor_val_one]
      show (j 1).val = (j 0).val * n + (j 1).val
      rw [show (j 0).val = 0 by omega]; omega),
    broadcastInDim_apply _ hd x j (ValueIdx.ix1 (j 1 : Fin n)) fun a => ?_]
  match a with
  | ⟨0, _⟩ =>
    show (j 1).val = if n = 1 then 0 else (j 1).val
    split <;> omega

/-- One value laid along a row of two, either way. -/
theorem spread_eq (v : FVec Ideal S1 .f32) : broadcastTo S1x2 (shapeCast S1x1 v shapeCasts_S1_S1x1) broadcasts_S1x1_S1x2
    = broadcastInDim Cert.ReferenceIdeal.S1x2 ![0, 1] Cert.ReferenceIdeal.Gen.bcast_S1x1_S1x2_0_1
        (broadcastInDim Cert.ReferenceIdeal.S1x1 ![0] Cert.ReferenceIdeal.Gen.bcast_S1_S1x1_0 v) := by
  have h : ∀ i i' : S1.Idx, i = i' := fun i i' => funext fun a => Fin.ext (by
    match a with
    | ⟨0, _⟩ => exact (Nat.lt_one_iff.1 (i 0).isLt).trans (Nat.lt_one_iff.1 (i' 0).isLt).symm)
  funext j
  exact congrArg v (h _ _)

/-- A readout is the reference's. -/
theorem readK_eq (mx sm : FVec Ideal S64 .f32) (b : BitVec 32) :
    readK mx sm b = concatenate Cert.ReferenceIdeal.S1x128 1
      [⟨Cert.ReferenceIdeal.S1x64, broadcastInDim Cert.ReferenceIdeal.S1x64 ![1] Cert.ReferenceIdeal.Gen.bcast_S64_S1x64_1 mx⟩,
        ⟨Cert.ReferenceIdeal.S1x64, Host.divf (broadcastInDim Cert.ReferenceIdeal.S1x64 ![1] Cert.ReferenceIdeal.Gen.bcast_S64_S1x64_1 sm)
          (broadcastInDim Cert.ReferenceIdeal.S1x64 ![] Cert.ReferenceIdeal.Gen.bcast_S_S1x64 (constant Cert.ReferenceIdeal.S_ .f32 b))⟩]
      Cert.ReferenceIdeal.Gen.concatenates_S1x64_S1x64_S1x128_d1 := by
  unfold readK
  rw [row_eq mx _ Cert.ReferenceIdeal.Gen.bcast_S64_S1x64_1, row_eq sm _ Cert.ReferenceIdeal.Gen.bcast_S64_S1x64_1]
  rfl

/-- The network is the reference's. -/
theorem netK_eq (z : FVec Ideal S1x128 .f32) (x4 : FVec Ideal S128x128 .f32) (x5 : FVec Ideal S128 .f32) (x6 : FVec Ideal S64x128 .f32)
    (x7 : FVec Ideal S64 .f32) (x8 : FVec Ideal S2x64 .f32) (x9 : FVec Ideal S2 .f32) :
    netK z x4 x5 x6 x7 x8 x9
      = addf (Host.dotGeneral Cert.ReferenceIdeal.dot_S1x64_S64x2_S1x2_1_0_0_1_n_n none
          (maximumf (addf (Host.dotGeneral Cert.ReferenceIdeal.dot_S1x128_S128x64_S1x64_1_0_0_1_n_n none
            (maximumf (addf (Host.dotGeneral Cert.ReferenceIdeal.dot_S1x128_S128x128_S1x128_1_0_0_1_n_n none z
                (transpose Cert.ReferenceIdeal.S128x128 [1, 0] x4 Cert.ReferenceIdeal.Gen.transposes_S128x128_S128x128_1_0))
                (broadcastInDim Cert.ReferenceIdeal.S1x128 ![1] Cert.ReferenceIdeal.Gen.bcast_S128_S1x128_1 x5))
              (broadcastInDim Cert.ReferenceIdeal.S1x128 ![] Cert.ReferenceIdeal.Gen.bcast_S_S1x128 (constant Cert.ReferenceIdeal.S_ .f32 0x00000000#32)))
            (transpose Cert.ReferenceIdeal.S128x64 [1, 0] x6 Cert.ReferenceIdeal.Gen.transposes_S64x128_S128x64_1_0))
            (broadcastInDim Cert.ReferenceIdeal.S1x64 ![1] Cert.ReferenceIdeal.Gen.bcast_S64_S1x64_1 x7))
            (broadcastInDim Cert.ReferenceIdeal.S1x64 ![] Cert.ReferenceIdeal.Gen.bcast_S_S1x64 (constant Cert.ReferenceIdeal.S_ .f32 0x00000000#32)))
          (transpose Cert.ReferenceIdeal.S64x2 [1, 0] x8 Cert.ReferenceIdeal.Gen.transposes_S2x64_S64x2_1_0))
          (broadcastInDim Cert.ReferenceIdeal.S1x2 ![1] Cert.ReferenceIdeal.Gen.bcast_S2_S1x2_1 x9) := by
  unfold netK
  rw [matmul_zero_eq_dotGeneral, matmul_zero_eq_dotGeneral, matmul_zero_eq_dotGeneral, row_eq x5 _ Cert.ReferenceIdeal.Gen.bcast_S128_S1x128_1,
    row_eq x7 _ Cert.ReferenceIdeal.Gen.bcast_S64_S1x64_1, row_eq x9 _ Cert.ReferenceIdeal.Gen.bcast_S2_S1x2_1]
  rfl

/-- The maximum of the least value and an array is the array. -/
theorem max_least (v : FVec Ideal S1 .f32) :
    maximumf (broadcastInDim Cert.ReferenceIdeal.S1 ![] Cert.ReferenceIdeal.Gen.bcast_S_S1 (constant (F := Ideal) Cert.ReferenceIdeal.S_ .f32 0xFF800000#32)) v = v := by
  have hbot : Ideal.ofBits .f32 0xFF800000#32 = ⊥ := by simp [Ideal.ofBits, Ideal.ieee]
  funext j
  show max (Ideal.ofBits .f32 0xFF800000#32) (v j : EReal) = v j
  rw [hbot]
  exact max_eq_right bot_le

/-- The exponentials are the reference's. -/
theorem expK_eq (l : FVec Ideal S1x2 .f32) :
    expK l = Host.exp (subf l (broadcastInDim Cert.ReferenceIdeal.S1x2 ![0, 1] Cert.ReferenceIdeal.Gen.bcast_S1x1_S1x2_0_1
      (broadcastInDim Cert.ReferenceIdeal.S1x1 ![0] Cert.ReferenceIdeal.Gen.bcast_S1_S1x1_0
        (maximumf (broadcastInDim Cert.ReferenceIdeal.S1 ![] Cert.ReferenceIdeal.Gen.bcast_S_S1 (constant Cert.ReferenceIdeal.S_ .f32 0xFF800000#32))
          (Host.reduce FloatOps.maximumf l (constant Cert.ReferenceIdeal.S_ .f32 0xFF800000#32) Cert.ReferenceIdeal.Gen.reducesTo_S1x2_S1_d1
            Cert.ReferenceIdeal.Gen.h_S_))))) := by
  unfold expK
  rw [max_least, spread_eq, hostReduce_maximumf_eq_multiReduction l 0xFF800000#32 Cert.ReferenceIdeal.Gen.reducesTo_S1x2_S1_d1
    Cert.ReferenceIdeal.Gen.h_S_ reduces_S1x2_S1 (.inl rfl) rfl]
  rfl

/-- The softmax is the reference's. -/
theorem softK_eq (e : FVec Ideal S1x2 .f32) :
    softK e = Host.divf e (broadcastInDim Cert.ReferenceIdeal.S1x2 ![0, 1] Cert.ReferenceIdeal.Gen.bcast_S1x1_S1x2_0_1
      (broadcastInDim Cert.ReferenceIdeal.S1x1 ![0] Cert.ReferenceIdeal.Gen.bcast_S1_S1x1_0
        (Host.reduceAdd e (constant Cert.ReferenceIdeal.S_ .f32 0x00000000#32) Cert.ReferenceIdeal.Gen.reducesTo_S1x2_S1_d1 Cert.ReferenceIdeal.Gen.h_S_))) := by
  unfold softK
  rw [spread_eq, multiReduction_add_eq_hostReduceAdd e 0x00000000#32 reduces_S1x2_S1 (.inl rfl) rfl
    (constant Cert.ReferenceIdeal.S_ .f32 0x00000000#32) Cert.ReferenceIdeal.Gen.reducesTo_S1x2_S1_d1 Cert.ReferenceIdeal.Gen.h_S_ Ideal.ofBits_zero_f32]
  rfl

/-- Of arrays that extend the reference's pooled arrays by rows below, the head computes the reference's result. -/
theorem head_eq (R : Valuation Cert.ReferenceIdeal.τ Cert.ReferenceIdeal.sig (Elt Ideal))
    (x0 : Vec Ideal S25000x64 .f32) (x1 : Vec Ideal S12504x64 .f32) (x2 : Vec Ideal S6256x64 .f32) (x3 : Vec Ideal S3128x64 .f32)
    (p0 : ∀ (i : Fin 25000) (i' : Fin 25000) (c : Fin 64), i'.val = i.val → x0 (ValueIdx.ix2 i' c) = (res_main_v49 R : FVec Ideal (shape2 25000 64) .f32) (ValueIdx.ix2 i c))
    (p1 : ∀ (i : Fin 12500) (i' : Fin 12504) (c : Fin 64), i'.val = i.val → x1 (ValueIdx.ix2 i' c) = (res_main_v138 R : FVec Ideal (shape2 12500 64) .f32) (ValueIdx.ix2 i c))
    (p2 : ∀ (i : Fin 6250) (i' : Fin 6256) (c : Fin 64), i'.val = i.val → x2 (ValueIdx.ix2 i' c) = (res_main_v245 R : FVec Ideal (shape2 6250 64) .f32) (ValueIdx.ix2 i c))
    (p3 : ∀ (i : Fin 3125) (i' : Fin 3128) (c : Fin 64), i'.val = i.val → x3 (ValueIdx.ix2 i' c) = (res_main_v352 R : FVec Ideal (shape2 3125 64) .f32) (ValueIdx.ix2 i c)) :
    headOf x0 x1 x2 x3 (R (Proc.devRef .tc Cert.ReferenceIdeal.main_arg17)) (R (Proc.devRef .tc Cert.ReferenceIdeal.main_arg18))
        (R (Proc.devRef .tc Cert.ReferenceIdeal.main_arg19)) (R (Proc.devRef .tc Cert.ReferenceIdeal.main_arg20))
        (R (Proc.devRef .tc Cert.ReferenceIdeal.main_arg21)) (R (Proc.devRef .tc Cert.ReferenceIdeal.main_arg22))
      = Host.divf (res_main_v420 R) (broadcastInDim Cert.ReferenceIdeal.S1x2 ![0, 1] Cert.ReferenceIdeal.Gen.bcast_S1x1_S1x2_0_1
          (broadcastInDim Cert.ReferenceIdeal.S1x1 ![0] Cert.ReferenceIdeal.Gen.bcast_S1_S1x1_0 (Host.reduceAdd (res_main_v420 R)
            (constant Cert.ReferenceIdeal.S_ .f32 0x00000000#32) Cert.ReferenceIdeal.Gen.reducesTo_S1x2_S1_d1 Cert.ReferenceIdeal.Gen.h_S_))) := by
  rw [headOf_steps]
  have max0 := max_eq (n := 25000) (N := 25000) (C := 64) (res_main_v49 R) x0 0xFF800000#32 p0 iota_S25000x1_d0_w32 shapeCasts_S25000x1_S25000x1 broadcasts_S25000x1_S25000x64 shapeCasts_S25000x64_S25000x64
    (by decide) (by decide) reduces_S25000x64_S64 (.inl rfl) rfl (by decide) Cert.ReferenceIdeal.Gen.reducesTo_S25000x64_S64_d0 Cert.ReferenceIdeal.Gen.h_S_
  have sum0 := sum_eq (n := 25000) (N := 25000) (C := 64) (res_main_v49 R) x0 p0 iota_S25000x1_d0_w32 shapeCasts_S25000x1_S25000x1 broadcasts_S25000x1_S25000x64 shapeCasts_S25000x64_S25000x64
    (by decide) (by decide) reduces_S25000x64_S64 (.inl rfl) rfl (by decide) Cert.ReferenceIdeal.Gen.reducesTo_S25000x64_S64_d0 Cert.ReferenceIdeal.Gen.h_S_
  have max1 := max_eq (n := 12500) (N := 12504) (C := 64) (res_main_v138 R) x1 0xFF800000#32 p1 iota_S12504x1_d0_w32 shapeCasts_S12504x1_S12504x1 broadcasts_S12504x1_S12504x64 shapeCasts_S12504x64_S12504x64
    (by decide) (by decide) reduces_S12504x64_S64 (.inl rfl) rfl (by decide) Cert.ReferenceIdeal.Gen.reducesTo_S12500x64_S64_d0 Cert.ReferenceIdeal.Gen.h_S_
  have sum1 := sum_eq (n := 12500) (N := 12504) (C := 64) (res_main_v138 R) x1 p1 iota_S12504x1_d0_w32 shapeCasts_S12504x1_S12504x1 broadcasts_S12504x1_S12504x64 shapeCasts_S12504x64_S12504x64
    (by decide) (by decide) reduces_S12504x64_S64 (.inl rfl) rfl (by decide) Cert.ReferenceIdeal.Gen.reducesTo_S12500x64_S64_d0 Cert.ReferenceIdeal.Gen.h_S_
  have max2 := max_eq (n := 6250) (N := 6256) (C := 64) (res_main_v245 R) x2 0xFF800000#32 p2 iota_S6256x1_d0_w32 shapeCasts_S6256x1_S6256x1 broadcasts_S6256x1_S6256x64 shapeCasts_S6256x64_S6256x64
    (by decide) (by decide) reduces_S6256x64_S64 (.inl rfl) rfl (by decide) Cert.ReferenceIdeal.Gen.reducesTo_S6250x64_S64_d0 Cert.ReferenceIdeal.Gen.h_S_
  have sum2 := sum_eq (n := 6250) (N := 6256) (C := 64) (res_main_v245 R) x2 p2 iota_S6256x1_d0_w32 shapeCasts_S6256x1_S6256x1 broadcasts_S6256x1_S6256x64 shapeCasts_S6256x64_S6256x64
    (by decide) (by decide) reduces_S6256x64_S64 (.inl rfl) rfl (by decide) Cert.ReferenceIdeal.Gen.reducesTo_S6250x64_S64_d0 Cert.ReferenceIdeal.Gen.h_S_
  have max3 := max_eq (n := 3125) (N := 3128) (C := 64) (res_main_v352 R) x3 0xFF800000#32 p3 iota_S3128x1_d0_w32 shapeCasts_S3128x1_S3128x1 broadcasts_S3128x1_S3128x64 shapeCasts_S3128x64_S3128x64
    (by decide) (by decide) reduces_S3128x64_S64 (.inl rfl) rfl (by decide) Cert.ReferenceIdeal.Gen.reducesTo_S3125x64_S64_d0 Cert.ReferenceIdeal.Gen.h_S_
  have sum3 := sum_eq (n := 3125) (N := 3128) (C := 64) (res_main_v352 R) x3 p3 iota_S3128x1_d0_w32 shapeCasts_S3128x1_S3128x1 broadcasts_S3128x1_S3128x64 shapeCasts_S3128x64_S3128x64
    (by decide) (by decide) reduces_S3128x64_S64 (.inl rfl) rfl (by decide) Cert.ReferenceIdeal.Gen.reducesTo_S3125x64_S64_d0 Cert.ReferenceIdeal.Gen.h_S_
  refine (congrArg (fun z => softK (expK (netK z _ _ _ _ _ _))) (congrArg₂ addf (congrArg₂ addf (congrArg₂ addf
    (congrArg₂ (readK · · 0x46C35000#32) max0 sum0) (congrArg₂ (readK · · 0x46435000#32) max1 sum1))
    (congrArg₂ (readK · · 0x45C35000#32) max2 sum2)) (congrArg₂ (readK · · 0x45435000#32) max3 sum3))).trans ?_
  simp only [readK_eq, netK_eq, expK_eq, softK_eq]
  rfl

end Cert.KernelIdeal.Stage

end
-- ==== Proof.Result.lean ====
/- The kernel program's result array after the run, as a term over the arrays the compiled region finds. -/
module

public import proofs.«01_k».proof.Proof.Frame

@[expose] public section

set_option maxRecDepth 16384

noncomputable section

namespace Cert.KernelIdeal.Stage

open Cert.KernelIdeal Cert.KernelIdeal.Gen Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ)

set_option maxHeartbeats 2000000 in
/-- The one block of each window is its whole array, in place. -/
theorem emb_eq (t : Fin cfg0.N) :
    (∀ y, ((cfg0.win 0).blk t).view.emb y = y)
      ∧ (∀ y, ((cfg0.win 1).blk t).view.emb y = y)
      ∧ (∀ y, ((cfg0.win 2).blk t).view.emb y = y)
      ∧ (∀ y, ((cfg0.win 3).blk t).view.emb y = y)
      ∧ (∀ y, ((cfg0.win 4).blk t).view.emb y = y)
      ∧ (∀ y, ((cfg0.win 5).blk t).view.emb y = y)
      ∧ (∀ y, ((cfg0.win 6).blk t).view.emb y = y)
      ∧ (∀ y, ((cfg0.win 7).blk t).view.emb y = y)
      ∧ (∀ y, ((cfg0.win 8).blk t).view.emb y = y)
      ∧ (∀ y, ((cfg0.win 9).blk t).view.emb y = y)
      ∧ (∀ y, ((cfg0.win 10).blk t).view.emb y = y) := by
  refine ⟨?_, ?_, ?_, ?_, ?_, ?_, ?_, ?_, ?_, ?_, ?_⟩ <;> intro y <;> refine funext fun a => Fin.ext ?_ <;> blk_simp <;>
    fin_cases t <;> fin_cases a <;> simp <;> rfl

/-- What the body reads of each input window is its array. -/
theorem inBlock_eq (c : Dev nD) (t : Fin cfg0.N) :
    inBlock m c 0 t = entry m c main_v409
      ∧ inBlock m c 1 t = entry m c main_v410
      ∧ inBlock m c 2 t = entry m c main_v411
      ∧ inBlock m c 3 t = entry m c main_v412
      ∧ inBlock m c 4 t = entry m c main_arg17
      ∧ inBlock m c 5 t = entry m c main_arg18
      ∧ inBlock m c 6 t = entry m c main_arg19
      ∧ inBlock m c 7 t = entry m c main_arg20
      ∧ inBlock m c 8 t = entry m c main_arg21
      ∧ inBlock m c 9 t = entry m c main_arg22 := by
  obtain ⟨e0, e1, e2, e3, e4, e5, e6, e7, e8, e9, _⟩ := emb_eq t
  unfold inBlock
  generalize entry m c = E
  exact ⟨funext fun y => congrArg (E main_v409) (e0 y),
    funext fun y => congrArg (E main_v410) (e1 y),
    funext fun y => congrArg (E main_v411) (e2 y),
    funext fun y => congrArg (E main_v412) (e3 y),
    funext fun y => congrArg (E main_arg17) (e4 y),
    funext fun y => congrArg (E main_arg18) (e5 y),
    funext fun y => congrArg (E main_arg19) (e6 y),
    funext fun y => congrArg (E main_arg20) (e7 y),
    funext fun y => congrArg (E main_arg21) (e8 y),
    funext fun y => congrArg (E main_arg22) (e9 y)⟩

/-- The result ends as the head of the ten arrays the region finds. -/
theorem result {r : PUnit × MemSt nD τ sig (Elt F)} (h : Pipeline.FramePost cfgs (data m) 0 (entry m) r) (c : Dev nD) :
    r.2.mem ((c : Thread nD τ).loc main_v413)
      = headOf (entry m c main_v409) (entry m c main_v410) (entry m c main_v411) (entry m c main_v412) (entry m c main_arg17)
          (entry m c main_arg18) (entry m c main_arg19) (entry m c main_arg20) (entry m c main_arg21) (entry m c main_arg22) := by
  refine ((h c).1 10).trans ?_
  refine (data m 0 c).arrAt_eq_of_covers 10 _ (by decide +kernel) fun t hf y => ?_
  blk_simp
  rw [data_after_out]
  obtain ⟨b0, b1, b2, b3, b4, b5, b6, b7, b8, b9⟩ := inBlock_eq m c t
  rw [b0, b1, b2, b3, b4, b5, b6, b7, b8, b9]
  refine congrArg (headOf _ _ _ _ _ _ _ _ _ _) (funext fun a => Fin.ext ?_)
  blk_simp
  fin_cases t; fin_cases a <;> simp <;> rfl

end Cert.KernelIdeal.Stage

end
-- ==== Proof.Value.lean ====
/- The kernel's result, on extended reals, is the reference's, for edge sources that are node numbers. -/
module

public import proofs.«01_k».proof.Proof.Chain
public import proofs.«01_k».proof.Proof.Head
public import proofs.«01_k».proof.Proof.Result

@[expose] public section

set_option maxRecDepth 16384

noncomputable section

namespace Cert.KernelIdeal.Stage

open Cert.KernelIdeal Cert.KernelIdeal.Gen Idealize.ShloMosaic Idealize.ShloMosaic.TcCoe Idealize.ShloMosaic.StableHlo
open Idealize.ShloMosaic.Routing
open Cert.ReferenceIdeal.Value

/-- The kernel program's contents of a device's buffers, and the reference's, on extended reals. -/
local notation "KV" => Valuation τ sig (Elt Ideal)
local notation "RV" => Valuation Cert.ReferenceIdeal.τ Cert.ReferenceIdeal.sig (Elt Ideal)

/-! ## The padding -/

/-- An array padded with rows below has its own rows first. -/
theorem pad_rows {n N : Nat} {hi : Fin 2 → Nat} (X : FVec Ideal (shape2 n 64) .f32) {u : Shape} (v : u.Idx → Ideal .f32)
    (h : (shape2 n 64).Pads ![0, 0] hi ![0, 0] (shape2 N 64)) (hu : 0 < u.numel) (i : Fin n) (i' : Fin N) (c : Fin 64)
    (hi' : i'.val = i.val) : pad (shape2 N 64) ![0, 0] hi ![0, 0] X v h hu (ValueIdx.ix2 i' c) = X (ValueIdx.ix2 i c) :=
  pad_apply_of_inside (s := shape2 n 64) (t := shape2 N 64) _ _ _ X v h hu _ (ValueIdx.ix2 i c) fun a => by
    match a with
    | ⟨0, _⟩ => show i'.val = 0 + i.val * 1; omega
    | ⟨1, _⟩ => show c.val = 0 + c.val * 1; omega

/-- Each padded array has the rows of its pooled array first. -/
theorem padded (V : KV) :
    (∀ (i i' : Fin 25000) (c : Fin 64), i'.val = i.val →
        (after pads V (Proc.devRef .tc main_v409) : FVec Ideal (shape2 25000 64) .f32) (ValueIdx.ix2 i' c)
          = (V (Proc.devRef .tc main_v59) : FVec Ideal (shape2 25000 64) .f32) (ValueIdx.ix2 i c))
      ∧ (∀ (i : Fin 12500) (i' : Fin 12504) (c : Fin 64), i'.val = i.val →
        (after pads V (Proc.devRef .tc main_v410) : FVec Ideal (shape2 12504 64) .f32) (ValueIdx.ix2 i' c)
          = (V (Proc.devRef .tc main_v151) : FVec Ideal (shape2 12500 64) .f32) (ValueIdx.ix2 i c))
      ∧ (∀ (i : Fin 6250) (i' : Fin 6256) (c : Fin 64), i'.val = i.val →
        (after pads V (Proc.devRef .tc main_v411) : FVec Ideal (shape2 6256 64) .f32) (ValueIdx.ix2 i' c)
          = (V (Proc.devRef .tc main_v261) : FVec Ideal (shape2 6250 64) .f32) (ValueIdx.ix2 i c))
      ∧ (∀ (i : Fin 3125) (i' : Fin 3128) (c : Fin 64), i'.val = i.val →
        (after pads V (Proc.devRef .tc main_v412) : FVec Ideal (shape2 3128 64) .f32) (ValueIdx.ix2 i' c)
          = (V (Proc.devRef .tc main_v371) : FVec Ideal (shape2 3125 64) .f32) (ValueIdx.ix2 i c)) := by
  refine ⟨?_, ?_, ?_, ?_⟩ <;> intro i i' c h <;> after_reads_simp <;>
    simp -implicitDefEqProofs only [StableHlo.TRef.toBuf, StableHlo.TRef.ofBuf, cast_cast, cast_eq] <;>
    exact pad_rows _ _ _ _ i i' c h

/-! ## The value -/

/-- What the compiled region computes of the contents all the host lines leave is the reference's result, where the two
    programs' arguments agree and each edge source is a node's number. -/
theorem head_of_lines (V : KV) (R : RV)
    (a0 : (V (Proc.devRef .tc main_arg0) : FVec Ideal S50000x2 .f32) = R (Proc.devRef .tc Cert.ReferenceIdeal.main_arg0))
    (a1 : (V (Proc.devRef .tc main_arg1) : IVec S2x800000 32) = R (Proc.devRef .tc Cert.ReferenceIdeal.main_arg1))
    (a3 : (V (Proc.devRef .tc main_arg3) : FVec Ideal S64x2 .f32) = R (Proc.devRef .tc Cert.ReferenceIdeal.main_arg3))
    (a4 : (V (Proc.devRef .tc main_arg4) : FVec Ideal S64 .f32) = R (Proc.devRef .tc Cert.ReferenceIdeal.main_arg4))
    (a5 : (V (Proc.devRef .tc main_arg5) : FVec Ideal S64x2 .f32) = R (Proc.devRef .tc Cert.ReferenceIdeal.main_arg5))
    (a6 : (V (Proc.devRef .tc main_arg6) : FVec Ideal S64x64 .f32) = R (Proc.devRef .tc Cert.ReferenceIdeal.main_arg6))
    (a7 : (V (Proc.devRef .tc main_arg7) : FVec Ideal S64 .f32) = R (Proc.devRef .tc Cert.ReferenceIdeal.main_arg7))
    (a8 : (V (Proc.devRef .tc main_arg8) : FVec Ideal S64x64 .f32) = R (Proc.devRef .tc Cert.ReferenceIdeal.main_arg8))
    (a9 : (V (Proc.devRef .tc main_arg9) : FVec Ideal S64x64 .f32) = R (Proc.devRef .tc Cert.ReferenceIdeal.main_arg9))
    (a10 : (V (Proc.devRef .tc main_arg10) : FVec Ideal S64 .f32) = R (Proc.devRef .tc Cert.ReferenceIdeal.main_arg10))
    (a11 : (V (Proc.devRef .tc main_arg11) : FVec Ideal S64x64 .f32) = R (Proc.devRef .tc Cert.ReferenceIdeal.main_arg11))
    (a12 : (V (Proc.devRef .tc main_arg12) : FVec Ideal S64 .f32) = R (Proc.devRef .tc Cert.ReferenceIdeal.main_arg12))
    (a13 : (V (Proc.devRef .tc main_arg13) : FVec Ideal S64 .f32) = R (Proc.devRef .tc Cert.ReferenceIdeal.main_arg13))
    (a14 : (V (Proc.devRef .tc main_arg14) : FVec Ideal S64 .f32) = R (Proc.devRef .tc Cert.ReferenceIdeal.main_arg14))
    (a15 : (V (Proc.devRef .tc main_arg15) : FVec Ideal S64 .f32) = R (Proc.devRef .tc Cert.ReferenceIdeal.main_arg15))
    (a16 : (V (Proc.devRef .tc main_arg16) : FVec Ideal S64 .f32) = R (Proc.devRef .tc Cert.ReferenceIdeal.main_arg16))
    (a17 : (V (Proc.devRef .tc main_arg17) : FVec Ideal S128x128 .f32) = R (Proc.devRef .tc Cert.ReferenceIdeal.main_arg17))
    (a18 : (V (Proc.devRef .tc main_arg18) : FVec Ideal S128 .f32) = R (Proc.devRef .tc Cert.ReferenceIdeal.main_arg18))
    (a19 : (V (Proc.devRef .tc main_arg19) : FVec Ideal S64x128 .f32) = R (Proc.devRef .tc Cert.ReferenceIdeal.main_arg19))
    (a20 : (V (Proc.devRef .tc main_arg20) : FVec Ideal S64 .f32) = R (Proc.devRef .tc Cert.ReferenceIdeal.main_arg20))
    (a21 : (V (Proc.devRef .tc main_arg21) : FVec Ideal S2x64 .f32) = R (Proc.devRef .tc Cert.ReferenceIdeal.main_arg21))
    (a22 : (V (Proc.devRef .tc main_arg22) : FVec Ideal S2 .f32) = R (Proc.devRef .tc Cert.ReferenceIdeal.main_arg22))
    (s : Fin 800000 → Fin 50000) (hs : ∀ e, source1 R (ValueIdx.ix1 e) = BitVec.ofNat 32 (s e).val) :
    headOf (after (List.flatten lines) V (Proc.devRef .tc main_v409))
        (after (List.flatten lines) V (Proc.devRef .tc main_v410))
        (after (List.flatten lines) V (Proc.devRef .tc main_v411))
        (after (List.flatten lines) V (Proc.devRef .tc main_v412))
        (after (List.flatten lines) V (Proc.devRef .tc main_arg17))
        (after (List.flatten lines) V (Proc.devRef .tc main_arg18))
        (after (List.flatten lines) V (Proc.devRef .tc main_arg19))
        (after (List.flatten lines) V (Proc.devRef .tc main_arg20))
        (after (List.flatten lines) V (Proc.devRef .tc main_arg21))
        (after (List.flatten lines) V (Proc.devRef .tc main_arg22))
      = Host.divf (res_main_v420 R) (broadcastInDim Cert.ReferenceIdeal.S1x2 ![0, 1] Cert.ReferenceIdeal.Gen.bcast_S1x1_S1x2_0_1
          (broadcastInDim Cert.ReferenceIdeal.S1x1 ![0] Cert.ReferenceIdeal.Gen.bcast_S1_S1x1_0 (Host.reduceAdd (res_main_v420 R)
            (constant Cert.ReferenceIdeal.S_ .f32 0x00000000#32) Cert.ReferenceIdeal.Gen.reducesTo_S1x2_S1_d1 Cert.ReferenceIdeal.Gen.h_S_))) := by
  obtain ⟨p0, p1, p2, p3⟩ := pooled V R a0 a1 a3 a4 a5 a6 a7 a8 a9 a10 a11 a12 a13 a14 a15 a16 s hs
  obtain ⟨q0, q1, q2, q3⟩ := padded (after pool4 (after gcn4 (after pool3 (after gcn3 (after pool2 (after sage2 (after pool1 (after sage1 V))))))))
  have b17 : ((after (List.flatten lines) V (Proc.devRef .tc main_arg17)) : FVec Ideal S128x128 .f32) = R (Proc.devRef .tc Cert.ReferenceIdeal.main_arg17) := (after_lines_arg 17 (by decide) V).trans a17
  have b18 : ((after (List.flatten lines) V (Proc.devRef .tc main_arg18)) : FVec Ideal S128 .f32) = R (Proc.devRef .tc Cert.ReferenceIdeal.main_arg18) := (after_lines_arg 18 (by decide) V).trans a18
  have b19 : ((after (List.flatten lines) V (Proc.devRef .tc main_arg19)) : FVec Ideal S64x128 .f32) = R (Proc.devRef .tc Cert.ReferenceIdeal.main_arg19) := (after_lines_arg 19 (by decide) V).trans a19
  have b20 : ((after (List.flatten lines) V (Proc.devRef .tc main_arg20)) : FVec Ideal S64 .f32) = R (Proc.devRef .tc Cert.ReferenceIdeal.main_arg20) := (after_lines_arg 20 (by decide) V).trans a20
  have b21 : ((after (List.flatten lines) V (Proc.devRef .tc main_arg21)) : FVec Ideal S2x64 .f32) = R (Proc.devRef .tc Cert.ReferenceIdeal.main_arg21) := (after_lines_arg 21 (by decide) V).trans a21
  have b22 : ((after (List.flatten lines) V (Proc.devRef .tc main_arg22)) : FVec Ideal S2 .f32) = R (Proc.devRef .tc Cert.ReferenceIdeal.main_arg22) := (after_lines_arg 22 (by decide) V).trans a22
  rw [b17, b18, b19, b20, b21, b22, after_lines]
  exact head_eq R _ _ _ _ (fun i i' c h => (q0 i i' c h).trans (congrFun p0 _)) (fun i i' c h => (q1 i i' c h).trans (congrFun p1 _))
    (fun i i' c h => (q2 i i' c h).trans (congrFun p2 _)) (fun i i' c h => (q3 i i' c h).trans (congrFun p3 _))

/-- A source array whose words are, as signed numbers, at least 0 and less than 50000 holds node numbers. -/
theorem nodes (x : IVec S800000 32) (h : ∀ e, 0 ≤ (x e).toInt ∧ (x e).toInt < 50000) :
    ∃ s : Fin 800000 → Fin 50000, ∀ e, x (ValueIdx.ix1 e) = BitVec.ofNat 32 (s e).val := by
  have hk : ∀ e : Fin 800000, ∃ k : Fin 50000, x (ValueIdx.ix1 e) = BitVec.ofNat 32 k.val := fun e => by
    obtain ⟨h0, h1⟩ := h (ValueIdx.ix1 e)
    generalize x (ValueIdx.ix1 e) = w at h0 h1
    have hw : w.toNat < 50000 := by
      rw [BitVec.toInt_eq_toNat_cond] at h0 h1
      split at h0 <;> omega
    exact ⟨⟨w.toNat, hw⟩, (BitVec.ofNat_toNat 32 w ▸ (BitVec.setWidth_eq w).symm)⟩
  choose s hs using hk
  exact ⟨s, hs⟩

end Cert.KernelIdeal.Stage

end
-- ==== Proof.Algebraic.lean ====
/- The algebraic claim: of launches whose edge sources are node numbers, the kernel's idealization and the reference's
   end with the same result. -/
module

public import proofs.«01_k».proof.Defs
public import proofs.«01_k».proof.Proof.Value
public import proofs.«01_k».proof.Proof.Gen.KernelIdeal
public import proofs.«01_k».proof.Proof.Gen.ReferenceIdeal
public import Idealize.ShloMosaic.Lib.ReduceAll

@[expose] public section

set_option maxRecDepth 16384

noncomputable section

/-- The side conditions of the precondition's operations. -/
theorem Cert.Pre_in_range.facts : Cert.Pre_in_range.Facts where
  slices_S2x800000_S1x800000_0_0 := by decide
  shapeCasts_S1x800000_S800000 := by decide
  bcast_S_S800000 := by decide
  reducesTo_S800000_S_d0 := by decide
  h_S_ := by decide

namespace Cert.Proof

open Idealize.ShloMosaic Idealize.ShloMosaic.TcCoe Idealize.SL.Sem
open Cert.KernelIdeal.Stage

attribute [local instance] Cert.Pre_in_range.facts

/-- There is one index of no dimensions. -/
local instance : Subsingleton Cert.Pre_in_range.S_.Idx := ⟨fun a b => funext fun k => k.elim0⟩

/-- The sources, by the precondition's operations. -/
abbrev sources (x : IVec Cert.Pre_in_range.S2x800000 32) : IVec Cert.Pre_in_range.S800000 32 :=
  shapeCast Cert.Pre_in_range.S800000 (extractStridedSlice Cert.Pre_in_range.S1x800000 ![0, 0] x
    Cert.Pre_in_range.facts.slices_S2x800000_S1x800000_0_0) Cert.Pre_in_range.facts.shapeCasts_S1x800000_S800000

/-- One word at least 0 and less than 50000. -/
theorem word_in_range (w : BitVec 32) (h : IntOp.andi (IntOp.cmpi .sge w 0#32) (IntOp.cmpi .slt w 50000#32) = 1#1) :
    0 ≤ w.toInt ∧ w.toInt < 50000 := by
  obtain ⟨h0, h1⟩ := IntOp.andi_eq_one.1 h
  exact ⟨IntOp.cmpi_sge.1 h0, IntOp.cmpi_slt.1 h1⟩

/-- Where the precondition holds, the sources are, as signed numbers, at least 0 and less than 50000. -/
theorem sources_in_range (m : (ℓ : Loc Cert.KernelIdeal.nD Cert.KernelIdeal.τ Cert.KernelIdeal.sig) → Buf (Elt Ideal) ℓ)
    (h : Cert.Pre_KernelIdeal_in_range m) (c : Dev Cert.KernelIdeal.nD) (e : Cert.Pre_in_range.S800000.Idx) :
    0 ≤ (sources (m ((c.tc : Thread Cert.KernelIdeal.nD Cert.KernelIdeal.τ).loc Cert.KernelIdeal.main_arg1)) e).toInt
      ∧ (sources (m ((c.tc : Thread Cert.KernelIdeal.nD Cert.KernelIdeal.τ).loc Cert.KernelIdeal.main_arg1)) e).toInt < 50000 := by
  have hc := h c
  unfold Cert.Pre_in_range.fn at hc
  have hb := Host.reduce_andi_all _ _ _ _ (fun k => k.elim0) (congrFun hc _) e
  exact word_in_range _ hb

/-- The value of the head of what the host lines leave, on device `c`, from launch contents. -/
abbrev value (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v413) :=
  headOf (entry m c Cert.KernelIdeal.main_v409) (entry m c Cert.KernelIdeal.main_v410) (entry m c Cert.KernelIdeal.main_v411)
    (entry m c Cert.KernelIdeal.main_v412) (entry m c Cert.KernelIdeal.main_arg17) (entry m c Cert.KernelIdeal.main_arg18)
    (entry m c Cert.KernelIdeal.main_arg19) (entry m c Cert.KernelIdeal.main_arg20) (entry m c Cert.KernelIdeal.main_arg21)
    (entry m c Cert.KernelIdeal.main_arg22)

/-- The algebraic claim. -/
theorem algebraic : Cert.algebraic_KernelIdeal_ReferenceIdeal_pre_in_range
    (hKernelIdeal := Cert.KernelIdeal.Gen.facts) (hReferenceIdeal := Cert.ReferenceIdeal.Gen.facts) (hPre_in_range := Cert.Pre_in_range.facts) := by
  intro m g m' g' hpre harg
  refine ⟨value m, (θ_run Cert.KernelIdeal.defs _ _).mono (fun r h c => ⟨result m h.1 c, args_kept m h.1 c 0 (by decide), args_kept m h.1 c 1 (by decide), args_kept m h.1 c 2 (by decide), args_kept m h.1 c 3 (by decide), args_kept m h.1 c 4 (by decide), args_kept m h.1 c 5 (by decide), args_kept m h.1 c 6 (by decide), args_kept m h.1 c 7 (by decide), args_kept m h.1 c 8 (by decide), args_kept m h.1 c 9 (by decide), args_kept m h.1 c 10 (by decide), args_kept m h.1 c 11 (by decide), args_kept m h.1 c 12 (by decide), args_kept m h.1 c 13 (by decide), args_kept m h.1 c 14 (by decide), args_kept m h.1 c 15 (by decide), args_kept m h.1 c 16 (by decide), args_kept m h.1 c 17 (by decide), args_kept m h.1 c 18 (by decide), args_kept m h.1 c 19 (by decide), args_kept m h.1 c 20 (by decide), args_kept m h.1 c 21 (by decide), args_kept m h.1 c 22 (by decide)⟩) (run m g),
    (θ_run Cert.ReferenceIdeal.defs _ _).mono (fun r h c => ⟨(h c).1.trans ?_, (h c).2⟩) (Cert.ReferenceIdeal.Value.run m' g')⟩
  obtain ⟨a0, a1, a2, a3, a4, a5, a6, a7, a8, a9, a10, a11, a12, a13, a14, a15, a16, a17, a18, a19, a20, a21, a22⟩ := harg c
  obtain ⟨s, hs⟩ := nodes _ (sources_in_range m hpre c)
  exact (head_of_lines (fun b => m (c, b)) (StableHlo.launchContents m' c) a0.symm a1.symm a3.symm a4.symm a5.symm a6.symm a7.symm a8.symm a9.symm a10.symm a11.symm a12.symm a13.symm a14.symm a15.symm a16.symm a17.symm a18.symm a19.symm a20.symm a21.symm a22.symm
    s (fun e => (congrFun (congrArg sources a1) _).trans (hs e))).symm

end Cert.Proof

end
-- ==== Proof.lean ====
module

public import proofs.«01_k».proof.Defs
public import proofs.«01_k».proof.Proof.Gen.Kernel
public import proofs.«01_k».proof.Proof.Frame
public import proofs.«01_k».proof.Proof.Same
public import proofs.«01_k».proof.Proof.Algebraic
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Every execution of the kernel program, over any float values, ends with the 23 arguments unchanged and the semaphore
    counters at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ (c : Dev Cert.KernelIdeal.nD) (k : Fin 610), k.val < 23 →
        r.2.mem ((c.tc : Thread Cert.KernelIdeal.nD Cert.KernelIdeal.τ).loc (Cert.KernelIdeal.Stage.buf k))
          = m ((c.tc : Thread Cert.KernelIdeal.nD Cert.KernelIdeal.τ).loc (Cert.KernelIdeal.Stage.buf k)))
      ∧ r.2.sem = fun _ => 0) :=
  (θ_run Cert.KernelIdeal.defs _ _).mono (fun _ h => ⟨Cert.KernelIdeal.Stage.args_kept m h.1, h.2⟩) (Cert.KernelIdeal.Stage.run m ρ)

/-- The frame of the kernel's idealization. -/
theorem frame_kernelIdeal : Cert.quiescent_KernelIdeal := fun m ρ _ =>
  (θ_run Cert.KernelIdeal.defs _ _).mono
    (fun _ h => ⟨fun c => ⟨h.1 c 0 (by decide), h.1 c 1 (by decide), h.1 c 2 (by decide), h.1 c 3 (by decide), h.1 c 4 (by decide),
      h.1 c 5 (by decide), h.1 c 6 (by decide), h.1 c 7 (by decide), h.1 c 8 (by decide), h.1 c 9 (by decide),
      h.1 c 10 (by decide), h.1 c 11 (by decide), h.1 c 12 (by decide), h.1 c 13 (by decide), h.1 c 14 (by decide),
      h.1 c 15 (by decide), h.1 c 16 (by decide), h.1 c 17 (by decide), h.1 c 18 (by decide), h.1 c 19 (by decide),
      h.1 c 20 (by decide), h.1 c 21 (by decide), h.1 c 22 (by decide)⟩, h.2⟩)
    (frame_any m ρ)

/-- The kernel's run is its idealization's, over the kernel's float values: the two programs have the same text. -/
theorem frame_bits (m : (ℓ : Loc Cert.Kernel.nD Cert.Kernel.τ Cert.Kernel.sig) → Buf (Elt Bits) ℓ)
    (ρ : Dev Cert.Kernel.nD → PrngReg) :
    θ_run Cert.Kernel.defs (onTc (τ := Cert.Kernel.τ) (Cert.Kernel.main (F := Bits))) ⟨m, fun _ => 0, ρ⟩ (fun r =>
      (∀ (c : Dev Cert.KernelIdeal.nD) (k : Fin 610), k.val < 23 →
        r.2.mem ((c.tc : Thread Cert.KernelIdeal.nD Cert.KernelIdeal.τ).loc (Cert.KernelIdeal.Stage.buf k))
          = m ((c.tc : Thread Cert.KernelIdeal.nD Cert.KernelIdeal.τ).loc (Cert.KernelIdeal.Stage.buf k)))
      ∧ r.2.sem = fun _ => 0) := by
  rw [Cert.Same.main_eq, Cert.Same.defs_eq]
  exact frame_any (F := Bits) m ρ

/-- The frame of the kernel. -/
theorem frame_kernel : Cert.quiescent_Kernel := fun m ρ _ =>
  (θ_run Cert.Kernel.defs _ _).mono
    (fun _ h => ⟨fun c => ⟨h.1 c 0 (by decide), h.1 c 1 (by decide), h.1 c 2 (by decide), h.1 c 3 (by decide), h.1 c 4 (by decide),
      h.1 c 5 (by decide), h.1 c 6 (by decide), h.1 c 7 (by decide), h.1 c 8 (by decide), h.1 c 9 (by decide),
      h.1 c 10 (by decide), h.1 c 11 (by decide), h.1 c 12 (by decide), h.1 c 13 (by decide), h.1 c 14 (by decide),
      h.1 c 15 (by decide), h.1 c 16 (by decide), h.1 c 17 (by decide), h.1 c 18 (by decide), h.1 c 19 (by decide),
      h.1 c 20 (by decide), h.1 c 21 (by decide), h.1 c 22 (by decide)⟩, h.2⟩)
    (frame_bits m ρ)

/-- The frame of the reference's idealization, whose program has no semaphore at all. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Everything claimed; a frame under a precondition is the frame without it. -/
theorem claim : Cert.Claim := ⟨Cert.Kernel.Gen.facts, Cert.KernelIdeal.Gen.facts, Cert.ReferenceIdeal.Gen.facts, Cert.Pre_in_range.facts,
  frame_kernel, frame_kernelIdeal, fun m ρ _ => frame_kernelIdeal m ρ trivial, frame_referenceIdeal,
  fun m ρ _ => frame_referenceIdeal m ρ trivial, trivial, algebraic⟩

end Cert.Proof

end
